-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v26)) (v4 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_v29) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S33734x4 : Shape := ⟨2, ![33734, 4]⟩
abbrev S33734x21 : Shape := ⟨2, ![33734, 21]⟩
abbrev S33792x4 : Shape := ⟨2, ![33792, 4]⟩
abbrev S_ : Shape := ⟨0, ![]⟩
abbrev S33792x1 : Shape := ⟨2, ![33792, 1]⟩
abbrev S1024x21 : Shape := ⟨2, ![1024, 21]⟩
abbrev S1024x4 : Shape := ⟨2, ![1024, 4]⟩
abbrev S1024x1 : Shape := ⟨2, ![1024, 1]⟩
abbrev S1024 : Shape := ⟨1, ![1024]⟩
abbrev S1024x2 : Shape := ⟨2, ![1024, 2]⟩
abbrev S33734x1 : Shape := ⟨2, ![33734, 1]⟩
abbrev S33734 : Shape := ⟨1, ![33734]⟩
abbrev S1000 : Shape := ⟨1, ![1000]⟩
abbrev S1000x1 : Shape := ⟨2, ![1000, 1]⟩
abbrev S1 : Shape := ⟨1, ![1]⟩
abbrev S1x1 : Shape := ⟨2, ![1, 1]⟩
abbrev S1000x4 : Shape := ⟨2, ![1000, 4]⟩
abbrev S4x1024 : Shape := ⟨2, ![4, 1024]⟩
abbrev S1x1024 : Shape := ⟨2, ![1, 1024]⟩
abbrev S1024x1024 : Shape := ⟨2, ![1024, 1024]⟩
abbrev S1x1x1024 : Shape := ⟨3, ![1, 1, 1024]⟩
abbrev S1x1x1 : Shape := ⟨3, ![1, 1, 1]⟩
abbrev S1x1000 : Shape := ⟨2, ![1, 1000]⟩
abbrev S200 : Shape := ⟨1, ![200]⟩
abbrev S200x1 : Shape := ⟨2, ![200, 1]⟩
abbrev S200x4 : Shape := ⟨2, ![200, 4]⟩

abbrev nBuf : Space → Nat
  | .hbm => 169
  | .vmem => 17
  | .smem => 0
  | _ => 0

abbrev hbmTy0_0 (i : Nat) : BufTy := match i % 128 with
  | 0 => ⟨S33734x4, .f32⟩
  | 1 => ⟨S33734x21, .f32⟩
  | 2 => ⟨S33792x4, .f32⟩
  | 3 => ⟨S33734x21, .f32⟩
  | 4 => ⟨S33734x21, .f32⟩
  | 5 => ⟨S_, .f32⟩
  | 6 => ⟨S33734x21, .f32⟩
  | 7 => ⟨S33734x21, .f32⟩
  | 8 => ⟨S_, .f32⟩
  | 9 => ⟨S33734x21, .f32⟩
  | 10 => ⟨S33734x21, .f32⟩
  | 11 => ⟨S33792x1, .f32⟩
  | 12 => ⟨S33792x1, .i32⟩
  | 13 => ⟨S33792x4, .f32⟩
  | 14 => ⟨S33734x1, .f32⟩
  | 15 => ⟨S33734, .f32⟩
  | 16 => ⟨S33734x1, .i32⟩
  | 17 => ⟨S33734, .i32⟩
  | 18 => ⟨S1000, .f32⟩
  | 19 => ⟨S1000, .i32⟩
  | 20 => ⟨S33734x4, .f32⟩
  | 21 => ⟨S_, .i32⟩
  | 22 => ⟨S1000, .i32⟩
  | 23 => ⟨S1000, .i1⟩
  | 24 => ⟨S_, .i32⟩
  | 25 => ⟨S1000, .i32⟩
  | 26 => ⟨S1000, .i32⟩
  | 27 => ⟨S1000, .i32⟩
  | 28 => ⟨S1000x1, .i32⟩
  | 29 => ⟨S1, .i32⟩
  | 30 => ⟨S_, .i32⟩
  | 31 => ⟨S1000x1, .i32⟩
  | 32 => ⟨S1000x1, .i1⟩
  | 33 => ⟨S1x1, .i32⟩
  | 34 => ⟨S1000x1, .i32⟩
  | 35 => ⟨S1000x1, .i1⟩
  | 36 => ⟨S1000x1, .i1⟩
  | 37 => ⟨S_, .i1⟩
  | 38 => ⟨S1000, .i1⟩
  | 39 => ⟨S1000x4, .f32⟩
  | 40 => ⟨S1000x4, .i1⟩
  | 41 => ⟨S_, .f32⟩
  | 42 => ⟨S1000x4, .f32⟩
  | 43 => ⟨S1000x4, .f32⟩
  | 44 => ⟨S_, .i32⟩
  | 45 => ⟨S1000, .i32⟩
  | 46 => ⟨S1000, .i1⟩
  | 47 => ⟨S_, .i32⟩
  | 48 => ⟨S1000, .i32⟩
  | 49 => ⟨S1000, .i32⟩
  | 50 => ⟨S1000, .i32⟩
  | 51 => ⟨S1000x1, .i32⟩
  | 52 => ⟨S1, .i32⟩
  | 53 => ⟨S_, .i32⟩
  | 54 => ⟨S1000x1, .i32⟩
  | 55 => ⟨S1000x1, .i1⟩
  | 56 => ⟨S1x1, .i32⟩
  | 57 => ⟨S1000x1, .i32⟩
  | 58 => ⟨S1000x1, .i1⟩
  | 59 => ⟨S1000x1, .i1⟩
  | 60 => ⟨S_, .i1⟩
  | 61 => ⟨S1000, .i1⟩
  | 62 => ⟨S1000, .i32⟩
  | 63 => ⟨S_, .i32⟩
  | 64 => ⟨S1000, .i32⟩
  | 65 => ⟨S1000, .i32⟩
  | 66 => ⟨S_, .i32⟩
  | 67 => ⟨S_, .f32⟩
  | 68 => ⟨S1024x4, .f32⟩
  | 69 => ⟨S4x1024, .f32⟩
  | 70 => ⟨S_, .f32⟩
  | 71 => ⟨S_, .f32⟩
  | 72 => ⟨S1024, .f32⟩
  | 73 => ⟨S1x1024, .f32⟩
  | 74 => ⟨S1x1024, .f32⟩
  | 75 => ⟨S1x1000, .f32⟩
  | 76 => ⟨S1000, .f32⟩
  | 77 => ⟨S_, .f32⟩
  | 78 => ⟨S1000, .f32⟩
  | 79 => ⟨S1000, .i1⟩
  | 80 => ⟨S_, .f32⟩
  | 81 => ⟨S_, .f32⟩
  | 82 => ⟨S1000, .f32⟩
  | 83 => ⟨S1000, .f32⟩
  | 84 => ⟨S200, .f32⟩
  | 85 => ⟨S200, .i32⟩
  | 86 => ⟨S_, .i32⟩
  | 87 => ⟨S200, .i32⟩
  | 88 => ⟨S200, .i1⟩
  | 89 => ⟨S_, .i32⟩
  | 90 => ⟨S200, .i32⟩
  | 91 => ⟨S200, .i32⟩
  | 92 => ⟨S200, .i32⟩
  | 93 => ⟨S200x1, .i32⟩
  | 94 => ⟨S1, .i32⟩
  | 95 => ⟨S_, .i32⟩
  | 96 => ⟨S200x1, .i32⟩
  | 97 => ⟨S200x1, .i1⟩
  | 98 => ⟨S1x1, .i32⟩
  | 99 => ⟨S200x1, .i32⟩
  | 100 => ⟨S200x1, .i1⟩
  | 101 => ⟨S200x1, .i1⟩
  | 102 => ⟨S_, .i1⟩
  | 103 => ⟨S200, .i1⟩
  | 104 => ⟨S200x4, .f32⟩
  | 105 => ⟨S200x4, .i1⟩
  | 106 => ⟨S_, .f32⟩
  | 107 => ⟨S200x4, .f32⟩
  | 108 => ⟨S200x4, .f32⟩
  | 109 => ⟨S_, .i32⟩
  | 110 => ⟨S200, .i32⟩
  | 111 => ⟨S200, .i1⟩
  | 112 => ⟨S_, .i32⟩
  | 113 => ⟨S200, .i32⟩
  | 114 => ⟨S200, .i32⟩
  | 115 => ⟨S200, .i32⟩
  | 116 => ⟨S200x1, .i32⟩
  | 117 => ⟨S1, .i32⟩
  | 118 => ⟨S_, .i32⟩
  | 119 => ⟨S200x1, .i32⟩
  | 120 => ⟨S200x1, .i1⟩
  | 121 => ⟨S1x1, .i32⟩
  | 122 => ⟨S200x1, .i32⟩
  | 123 => ⟨S200x1, .i1⟩
  | 124 => ⟨S200x1, .i1⟩
  | 125 => ⟨S_, .i1⟩
  | 126 => ⟨S200, .i1⟩
  | 127 => ⟨S200, .i32⟩
  | _ => ⟨S33734x4, .f32⟩

abbrev hbmTy0_1 (i : Nat) : BufTy := match i % 128 with
  | 0 => ⟨S_, .i32⟩
  | 1 => ⟨S200, .i32⟩
  | 2 => ⟨S200, .i32⟩
  | 3 => ⟨S_, .i32⟩
  | 4 => ⟨S200, .i32⟩
  | 5 => ⟨S200, .i1⟩
  | 6 => ⟨S_, .i32⟩
  | 7 => ⟨S200, .i32⟩
  | 8 => ⟨S200, .i32⟩
  | 9 => ⟨S200, .i32⟩
  | 10 => ⟨S200x1, .i32⟩
  | 11 => ⟨S1, .i32⟩
  | 12 => ⟨S_, .i32⟩
  | 13 => ⟨S200x1, .i32⟩
  | 14 => ⟨S200x1, .i1⟩
  | 15 => ⟨S1x1, .i32⟩
  | 16 => ⟨S200x1, .i32⟩
  | 17 => ⟨S200x1, .i1⟩
  | 18 => ⟨S200x1, .i1⟩
  | 19 => ⟨S_, .i1⟩
  | 20 => ⟨S200, .i1⟩
  | 21 => ⟨S200, .i32⟩
  | 22 => ⟨S_, .i32⟩
  | 23 => ⟨S200, .i32⟩
  | 24 => ⟨S200, .i32⟩
  | 25 => ⟨S1000, .i32⟩
  | 26 => ⟨S_, .i32⟩
  | 27 => ⟨S_, .i32⟩
  | 28 => ⟨S_, .i32⟩
  | 29 => ⟨S_, .i32⟩
  | 30 => ⟨S200, .i32⟩
  | 31 => ⟨S200, .i32⟩
  | 32 => ⟨S200, .i1⟩
  | 33 => ⟨S_, .f32⟩
  | 34 => ⟨S_, .f32⟩
  | 35 => ⟨S200, .f32⟩
  | 36 => ⟨S200, .f32⟩
  | 37 => ⟨S200x1, .i1⟩
  | 38 => ⟨S200x1, .f32⟩
  | 39 => ⟨S200x4, .f32⟩
  | 40 => ⟨S200x4, .f32⟩
  | _ => ⟨S33734x4, .f32⟩

abbrev hbmTy (i : Nat) : BufTy := match i / 128 with
  | 0 => hbmTy0_0 i
  | 1 => hbmTy0_1 i
  | _ => ⟨S33734x4, .f32⟩

abbrev bufTy : (tb : Table) → Fin (tcTables nBuf tb) → BufTy
  | .hbm, ⟨i, _⟩ => hbmTy i
  | .local _ .vmem, ⟨0, _⟩ => ⟨S1024x21, .f32⟩
  | .local _ .vmem, ⟨1, _⟩ => ⟨S1024x21, .f32⟩
  | .local _ .vmem, ⟨2, _⟩ => ⟨S1024x4, .f32⟩
  | .local _ .vmem, ⟨3, _⟩ => ⟨S1024x4, .f32⟩
  | .local _ .vmem, ⟨4, _⟩ => ⟨S1024x4, .f32⟩
  | .local _ .vmem, ⟨5, _⟩ => ⟨S1024x4, .f32⟩
  | .local _ .vmem, ⟨6, _⟩ => ⟨S1024x1, .f32⟩
  | .local _ .vmem, ⟨7, _⟩ => ⟨S1024x1, .f32⟩
  | .local _ .vmem, ⟨8, _⟩ => ⟨S1024x1, .i32⟩
  | .local _ .vmem, ⟨9, _⟩ => ⟨S1024x1, .i32⟩
  | .local _ .vmem, ⟨10, _⟩ => ⟨S1024x4, .f32⟩
  | .local _ .vmem, ⟨11, _⟩ => ⟨S1024x4, .f32⟩
  | .local _ .vmem, ⟨12, _⟩ => ⟨S1024x4, .f32⟩
  | .local _ .vmem, ⟨13, _⟩ => ⟨S4x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | _, _ => ⟨S33734x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_values : Ref sig .tc := ⟨.hbm, 18, rfl⟩
abbrev main_indices : Ref sig .tc := ⟨.hbm, 19, rfl⟩
abbrev main_v11 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v12 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_c_4 : Ref sig .tc := ⟨.hbm, 63, rfl⟩
abbrev main_call1_v14 : Ref sig .tc := ⟨.hbm, 64, rfl⟩
abbrev main_v13 : Ref sig .tc := ⟨.hbm, 65, rfl⟩
abbrev main_c : Ref sig .tc := ⟨.hbm, 66, rfl⟩
abbrev main_call2_v0 : Ref sig .tc := ⟨.hbm, 67, rfl⟩
abbrev main_v14 : Ref sig .tc := ⟨.hbm, 68, rfl⟩
abbrev main_v15 : Ref sig .tc := ⟨.hbm, 69, rfl⟩
abbrev main_cst_2 : Ref sig .tc := ⟨.hbm, 70, rfl⟩
abbrev main_call3_v0 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_cst_3 : Ref sig .tc := ⟨.hbm, 77, rfl⟩
abbrev main_v21 : Ref sig .tc := ⟨.hbm, 78, rfl⟩
abbrev main_v22 : Ref sig .tc := ⟨.hbm, 79, rfl⟩
abbrev main_cst_4 : Ref sig .tc := ⟨.hbm, 80, rfl⟩
abbrev main_call4_v0 : Ref sig .tc := ⟨.hbm, 81, rfl⟩
abbrev main_call4_v1 : Ref sig .tc := ⟨.hbm, 82, rfl⟩
abbrev main_v23 : Ref sig .tc := ⟨.hbm, 83, rfl⟩
abbrev main_values_5 : Ref sig .tc := ⟨.hbm, 84, rfl⟩
abbrev main_indices_6 : Ref sig .tc := ⟨.hbm, 85, rfl⟩
abbrev main_call5_c : Ref sig .tc := ⟨.hbm, 86, rfl⟩
abbrev main_call5_v0 : Ref sig .tc := ⟨.hbm, 87, rfl⟩
abbrev main_call5_v1 : Ref sig .tc := ⟨.hbm, 88, rfl⟩
abbrev main_call5_c_0 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_c_1 : Ref sig .tc := ⟨.hbm, 94, rfl⟩
abbrev main_call5_c_2 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_c_3 : Ref sig .tc := ⟨.hbm, 102, rfl⟩
abbrev main_call5_v12 : Ref sig .tc := ⟨.hbm, 103, rfl⟩
abbrev main_call5_v13 : Ref sig .tc := ⟨.hbm, 104, rfl⟩
abbrev main_call5_v14 : Ref sig .tc := ⟨.hbm, 105, rfl⟩
abbrev main_call5_cst : Ref sig .tc := ⟨.hbm, 106, rfl⟩
abbrev main_call5_v15 : Ref sig .tc := ⟨.hbm, 107, rfl⟩
abbrev main_v24 : Ref sig .tc := ⟨.hbm, 108, rfl⟩
abbrev main_call6_c : Ref sig .tc := ⟨.hbm, 109, rfl⟩
abbrev main_call6_v0 : Ref sig .tc := ⟨.hbm, 110, rfl⟩
abbrev main_call6_v1 : Ref sig .tc := ⟨.hbm, 111, rfl⟩
abbrev main_call6_c_0 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_call6_v5 : Ref sig .tc := ⟨.hbm, 116, rfl⟩
abbrev main_call6_c_1 : Ref sig .tc := ⟨.hbm, 117, rfl⟩
abbrev main_call6_c_2 : Ref sig .tc := ⟨.hbm, 118, rfl⟩
abbrev main_call6_v6 : Ref sig .tc := ⟨.hbm, 119, rfl⟩
abbrev main_call6_v7 : Ref sig .tc := ⟨.hbm, 120, rfl⟩
abbrev main_call6_v8 : Ref sig .tc := ⟨.hbm, 121, rfl⟩
abbrev main_call6_v9 : Ref sig .tc := ⟨.hbm, 122, rfl⟩
abbrev main_call6_v10 : Ref sig .tc := ⟨.hbm, 123, rfl⟩
abbrev main_call6_v11 : Ref sig .tc := ⟨.hbm, 124, rfl⟩
abbrev main_call6_c_3 : Ref sig .tc := ⟨.hbm, 125, rfl⟩
abbrev main_call6_v12 : Ref sig .tc := ⟨.hbm, 126, rfl⟩
abbrev main_call6_v13 : Ref sig .tc := ⟨.hbm, 127, rfl⟩
abbrev main_call6_c_4 : Ref sig .tc := ⟨.hbm, 128, rfl⟩
abbrev main_call6_v14 : Ref sig .tc := ⟨.hbm, 129, rfl⟩
abbrev main_v25 : Ref sig .tc := ⟨.hbm, 130, rfl⟩
abbrev main_call7_c : Ref sig .tc := ⟨.hbm, 131, rfl⟩
abbrev main_call7_v0 : Ref sig .tc := ⟨.hbm, 132, rfl⟩
abbrev main_call7_v1 : Ref sig .tc := ⟨.hbm, 133, rfl⟩
abbrev main_call7_c_0 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_call7_v5 : Ref sig .tc := ⟨.hbm, 138, rfl⟩
abbrev main_call7_c_1 : Ref sig .tc := ⟨.hbm, 139, rfl⟩
abbrev main_call7_c_2 : Ref sig .tc := ⟨.hbm, 140, rfl⟩
abbrev main_call7_v6 : Ref sig .tc := ⟨.hbm, 141, rfl⟩
abbrev main_call7_v7 : Ref sig .tc := ⟨.hbm, 142, rfl⟩
abbrev main_call7_v8 : Ref sig .tc := ⟨.hbm, 143, rfl⟩
abbrev main_call7_v9 : Ref sig .tc := ⟨.hbm, 144, rfl⟩
abbrev main_call7_v10 : Ref sig .tc := ⟨.hbm, 145, rfl⟩
abbrev main_call7_v11 : Ref sig .tc := ⟨.hbm, 146, rfl⟩
abbrev main_call7_c_3 : Ref sig .tc := ⟨.hbm, 147, rfl⟩
abbrev main_call7_v12 : Ref sig .tc := ⟨.hbm, 148, rfl⟩
abbrev main_call7_v13 : Ref sig .tc := ⟨.hbm, 149, rfl⟩
abbrev main_call7_c_4 : Ref sig .tc := ⟨.hbm, 150, rfl⟩
abbrev main_call7_v14 : Ref sig .tc := ⟨.hbm, 151, rfl⟩
abbrev main_v26 : Ref sig .tc := ⟨.hbm, 152, rfl⟩
abbrev main_v27 : Ref sig .tc := ⟨.hbm, 153, rfl⟩
abbrev main_c_7 : Ref sig .tc := ⟨.hbm, 154, rfl⟩
abbrev main_v28 : Ref sig .tc := ⟨.hbm, 155, rfl⟩
abbrev main_c_8 : Ref sig .tc := ⟨.hbm, 156, rfl⟩
abbrev main_v29 : Ref sig .tc := ⟨.hbm, 157, rfl⟩
abbrev main_v30 : Ref sig .tc := ⟨.hbm, 158, rfl⟩
abbrev main_v31 : Ref sig .tc := ⟨.hbm, 159, rfl⟩
abbrev main_v32 : Ref sig .tc := ⟨.hbm, 160, rfl⟩
abbrev main_cst_9 : Ref sig .tc := ⟨.hbm, 161, rfl⟩
abbrev main_call8_v0 : Ref sig .tc := ⟨.hbm, 162, rfl⟩
abbrev main_call8_v1 : Ref sig .tc := ⟨.hbm, 163, rfl⟩
abbrev main_v33 : Ref sig .tc := ⟨.hbm, 164, rfl⟩
abbrev main_v34 : Ref sig .tc := ⟨.hbm, 165, rfl⟩
abbrev main_v35 : Ref sig .tc := ⟨.hbm, 166, rfl⟩
abbrev main_v36 : Ref sig .tc := ⟨.hbm, 167, rfl⟩
abbrev main_v37 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem3_0 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

abbrev stage1_0 : Fin 1 → Memref sig .tc .vmem S1024x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S33734x4 : Shape := ⟨2, ![33734, 4]⟩
abbrev S33734x21 : Shape := ⟨2, ![33734, 21]⟩
abbrev S_ : Shape := ⟨0, ![]⟩
abbrev S33734x2 : Shape := ⟨2, ![33734, 2]⟩
abbrev S33734 : Shape := ⟨1, ![33734]⟩
abbrev S1000 : Shape := ⟨1, ![1000]⟩
abbrev S1000x1 : Shape := ⟨2, ![1000, 1]⟩
abbrev S1 : Shape := ⟨1, ![1]⟩
abbrev S1x1 : Shape := ⟨2, ![1, 1]⟩
abbrev S1000x4 : Shape := ⟨2, ![1000, 4]⟩
abbrev S1000x2 : Shape := ⟨2, ![1000, 2]⟩
abbrev S1000x1x2 : Shape := ⟨3, ![1000, 1, 2]⟩
abbrev S1x1000x2 : Shape := ⟨3, ![1, 1000, 2]⟩
abbrev S1000x1000x2 : Shape := ⟨3, ![1000, 1000, 2]⟩
abbrev S1000x1000x1 : Shape := ⟨3, ![1000, 1000, 1]⟩
abbrev S1000x1000 : Shape := ⟨2, ![1000, 1000]⟩
abbrev S1x1000 : Shape := ⟨2, ![1, 1000]⟩
abbrev S200 : Shape := ⟨1, ![200]⟩
abbrev S200x1 : Shape := ⟨2, ![200, 1]⟩
abbrev S200x4 : Shape := ⟨2, ![200, 4]⟩

abbrev nBuf : Space → Nat
  | .hbm => 298
  | .vmem => 0
  | .smem => 0
  | _ => 0

abbrev hbmTy0_0 (i : Nat) : BufTy := match i % 128 with
  | 0 => ⟨S33734x4, .f32⟩
  | 1 => ⟨S33734x21, .f32⟩
  | 2 => ⟨S33734x4, .f32⟩
  | 3 => ⟨S33734x21, .f32⟩
  | 4 => ⟨S33734x21, .f32⟩
  | 5 => ⟨S_, .f32⟩
  | 6 => ⟨S33734x21, .f32⟩
  | 7 => ⟨S33734x21, .f32⟩
  | 8 => ⟨S_, .f32⟩
  | 9 => ⟨S33734x21, .f32⟩
  | 10 => ⟨S33734x21, .f32⟩
  | 11 => ⟨S33734x2, .f32⟩
  | 12 => ⟨S_, .f32⟩
  | 13 => ⟨S33734x2, .f32⟩
  | 14 => ⟨S33734x2, .f32⟩
  | 15 => ⟨S33734x2, .f32⟩
  | 16 => ⟨S33734x2, .f32⟩
  | 17 => ⟨S33734x2, .f32⟩
  | 18 => ⟨S33734x2, .f32⟩
  | 19 => ⟨S_, .f32⟩
  | 20 => ⟨S33734x2, .f32⟩
  | 21 => ⟨S33734x2, .f32⟩
  | 22 => ⟨S33734x2, .f32⟩
  | 23 => ⟨S33734x2, .f32⟩
  | 24 => ⟨S33734x2, .f32⟩
  | 25 => ⟨S33734x2, .f32⟩
  | 26 => ⟨S_, .f32⟩
  | 27 => ⟨S33734x2, .f32⟩
  | 28 => ⟨S33734x2, .f32⟩
  | 29 => ⟨S33734x2, .f32⟩
  | 30 => ⟨S_, .f32⟩
  | 31 => ⟨S33734x2, .f32⟩
  | 32 => ⟨S33734x2, .f32⟩
  | 33 => ⟨S33734x2, .f32⟩
  | 34 => ⟨S33734x4, .f32⟩
  | 35 => ⟨S_, .f32⟩
  | 36 => ⟨S_, .f32⟩
  | 37 => ⟨S_, .f32⟩
  | 38 => ⟨S33734x4, .f32⟩
  | 39 => ⟨S33734x4, .f32⟩
  | 40 => ⟨S_, .f32⟩
  | 41 => ⟨S33734x4, .f32⟩
  | 42 => ⟨S33734x4, .f32⟩
  | 43 => ⟨S_, .f32⟩
  | 44 => ⟨S33734, .f32⟩
  | 45 => ⟨S33734x21, .i32⟩
  | 46 => ⟨S_, .f32⟩
  | 47 => ⟨S_, .i32⟩
  | 48 => ⟨S33734, .f32⟩
  | 49 => ⟨S33734, .i32⟩
  | 50 => ⟨S1000, .f32⟩
  | 51 => ⟨S1000, .i32⟩
  | 52 => ⟨S_, .i32⟩
  | 53 => ⟨S1000, .i32⟩
  | 54 => ⟨S1000, .i1⟩
  | 55 => ⟨S_, .i32⟩
  | 56 => ⟨S1000, .i32⟩
  | 57 => ⟨S1000, .i32⟩
  | 58 => ⟨S1000, .i32⟩
  | 59 => ⟨S1000x1, .i32⟩
  | 60 => ⟨S1, .i32⟩
  | 61 => ⟨S_, .i32⟩
  | 62 => ⟨S1000x1, .i32⟩
  | 63 => ⟨S1000x1, .i1⟩
  | 64 => ⟨S1x1, .i32⟩
  | 65 => ⟨S1000x1, .i32⟩
  | 66 => ⟨S1000x1, .i1⟩
  | 67 => ⟨S1000x1, .i1⟩
  | 68 => ⟨S_, .i1⟩
  | 69 => ⟨S1000, .i1⟩
  | 70 => ⟨S1000x4, .f32⟩
  | 71 => ⟨S1000x4, .i1⟩
  | 72 => ⟨S_, .f32⟩
  | 73 => ⟨S1000x4, .f32⟩
  | 74 => ⟨S1000x4, .f32⟩
  | 75 => ⟨S_, .i32⟩
  | 76 => ⟨S1000, .i32⟩
  | 77 => ⟨S1000, .i1⟩
  | 78 => ⟨S_, .i32⟩
  | 79 => ⟨S1000, .i32⟩
  | 80 => ⟨S1000, .i32⟩
  | 81 => ⟨S1000, .i32⟩
  | 82 => ⟨S1000x1, .i32⟩
  | 83 => ⟨S1, .i32⟩
  | 84 => ⟨S_, .i32⟩
  | 85 => ⟨S1000x1, .i32⟩
  | 86 => ⟨S1000x1, .i1⟩
  | 87 => ⟨S1x1, .i32⟩
  | 88 => ⟨S1000x1, .i32⟩
  | 89 => ⟨S1000x1, .i1⟩
  | 90 => ⟨S1000x1, .i1⟩
  | 91 => ⟨S_, .i1⟩
  | 92 => ⟨S1000, .i1⟩
  | 93 => ⟨S1000, .i32⟩
  | 94 => ⟨S_, .i32⟩
  | 95 => ⟨S1000, .i32⟩
  | 96 => ⟨S1000, .i32⟩
  | 97 => ⟨S1000x2, .f32⟩
  | 98 => ⟨S1000x1x2, .f32⟩
  | 99 => ⟨S1000x2, .f32⟩
  | 100 => ⟨S1x1000x2, .f32⟩
  | 101 => ⟨S1000x1000x2, .f32⟩
  | 102 => ⟨S1000x1000x2, .f32⟩
  | 103 => ⟨S1000x1000x2, .f32⟩
  | 104 => ⟨S1000x2, .f32⟩
  | 105 => ⟨S1000x1x2, .f32⟩
  | 106 => ⟨S1000x2, .f32⟩
  | 107 => ⟨S1x1000x2, .f32⟩
  | 108 => ⟨S1000x1000x2, .f32⟩
  | 109 => ⟨S1000x1000x2, .f32⟩
  | 110 => ⟨S1000x1000x2, .f32⟩
  | 111 => ⟨S1000x1000x2, .f32⟩
  | 112 => ⟨S_, .f32⟩
  | 113 => ⟨S_, .f32⟩
  | 114 => ⟨S1000x1000x2, .f32⟩
  | 115 => ⟨S1000x1000x2, .f32⟩
  | 116 => ⟨S1000x1000x1, .f32⟩
  | 117 => ⟨S1000x1000, .f32⟩
  | 118 => ⟨S1000x1000x1, .f32⟩
  | 119 => ⟨S1000x1000, .f32⟩
  | 120 => ⟨S1000x1000, .f32⟩
  | 121 => ⟨S1000x1, .f32⟩
  | 122 => ⟨S1000, .f32⟩
  | 123 => ⟨S1000x1, .f32⟩
  | 124 => ⟨S1000, .f32⟩
  | 125 => ⟨S1000, .f32⟩
  | 126 => ⟨S1000x1, .f32⟩
  | 127 => ⟨S1000, .f32⟩
  | _ => ⟨S33734x4, .f32⟩

abbrev hbmTy0_1 (i : Nat) : BufTy := match i % 128 with
  | 0 => ⟨S1000x1, .f32⟩
  | 1 => ⟨S1000, .f32⟩
  | 2 => ⟨S1000, .f32⟩
  | 3 => ⟨S1000, .f32⟩
  | 4 => ⟨S1000x1, .f32⟩
  | 5 => ⟨S1000, .f32⟩
  | 6 => ⟨S1000x1, .f32⟩
  | 7 => ⟨S1000, .f32⟩
  | 8 => ⟨S1000, .f32⟩
  | 9 => ⟨S1000x1, .f32⟩
  | 10 => ⟨S1000, .f32⟩
  | 11 => ⟨S1000x1, .f32⟩
  | 12 => ⟨S1000, .f32⟩
  | 13 => ⟨S1000, .f32⟩
  | 14 => ⟨S1000, .f32⟩
  | 15 => ⟨S1000x1, .f32⟩
  | 16 => ⟨S1x1000, .f32⟩
  | 17 => ⟨S1000x1000, .f32⟩
  | 18 => ⟨S1000x1000, .f32⟩
  | 19 => ⟨S1000x1000, .f32⟩
  | 20 => ⟨S1000x1000, .f32⟩
  | 21 => ⟨S_, .f32⟩
  | 22 => ⟨S1000x1000, .f32⟩
  | 23 => ⟨S1000x1000, .f32⟩
  | 24 => ⟨S1000x1000, .f32⟩
  | 25 => ⟨S1000, .i32⟩
  | 26 => ⟨S_, .f32⟩
  | 27 => ⟨S1000, .f32⟩
  | 28 => ⟨S1000, .i1⟩
  | 29 => ⟨S_, .i32⟩
  | 30 => ⟨S1000, .i32⟩
  | 31 => ⟨S1000x1000, .f32⟩
  | 32 => ⟨S1000, .i32⟩
  | 33 => ⟨S_, .i32⟩
  | 34 => ⟨S1000, .i1⟩
  | 35 => ⟨S_, .i32⟩
  | 36 => ⟨S_, .i1⟩
  | 37 => ⟨S1, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S1000x1, .f32⟩
  | 53 => ⟨S1000, .f32⟩
  | 54 => ⟨S_, .f32⟩
  | 55 => ⟨S1000, .f32⟩
  | 56 => ⟨S1000, .i1⟩
  | 57 => ⟨S1000, .i1⟩
  | 58 => ⟨S1000, .i32⟩
  | 59 => ⟨S1000, .i1⟩
  | 60 => ⟨S1000, .i1⟩
  | 61 => ⟨S_, .i1⟩
  | 62 => ⟨S_, .i1⟩
  | 63 => ⟨S_, .i32⟩
  | 64 => ⟨S_, .i1⟩
  | 65 => ⟨S_, .i32⟩
  | 66 => ⟨S_, .i32⟩
  | 67 => ⟨S_, .i32⟩
  | 68 => ⟨S1, .i1⟩
  | 69 => ⟨S_, .i1⟩
  | 70 => ⟨S_, .i1⟩
  | 71 => ⟨S_, .i1⟩
  | 72 => ⟨S_, .i32⟩
  | 73 => ⟨S_, .i1⟩
  | 74 => ⟨S_, .i32⟩
  | 75 => ⟨S_, .i32⟩
  | 76 => ⟨S_, .i32⟩
  | 77 => ⟨S1, .i32⟩
  | 78 => ⟨S1000, .i1⟩
  | 79 => ⟨S_, .i32⟩
  | 80 => ⟨S_, .i32⟩
  | 81 => ⟨S_, .f32⟩
  | 82 => ⟨S_, .f32⟩
  | 83 => ⟨S1000, .f32⟩
  | 84 => ⟨S1000, .f32⟩
  | 85 => ⟨S200, .f32⟩
  | 86 => ⟨S200, .i32⟩
  | 87 => ⟨S_, .i32⟩
  | 88 => ⟨S200, .i32⟩
  | 89 => ⟨S200, .i1⟩
  | 90 => ⟨S_, .i32⟩
  | 91 => ⟨S200, .i32⟩
  | 92 => ⟨S200, .i32⟩
  | 93 => ⟨S200, .i32⟩
  | 94 => ⟨S200x1, .i32⟩
  | 95 => ⟨S1, .i32⟩
  | 96 => ⟨S_, .i32⟩
  | 97 => ⟨S200x1, .i32⟩
  | 98 => ⟨S200x1, .i1⟩
  | 99 => ⟨S1x1, .i32⟩
  | 100 => ⟨S200x1, .i32⟩
  | 101 => ⟨S200x1, .i1⟩
  | 102 => ⟨S200x1, .i1⟩
  | 103 => ⟨S_, .i1⟩
  | 104 => ⟨S200, .i1⟩
  | 105 => ⟨S200x4, .f32⟩
  | 106 => ⟨S200x4, .i1⟩
  | 107 => ⟨S_, .f32⟩
  | 108 => ⟨S200x4, .f32⟩
  | 109 => ⟨S200x4, .f32⟩
  | 110 => ⟨S_, .i32⟩
  | 111 => ⟨S200, .i32⟩
  | 112 => ⟨S200, .i1⟩
  | 113 => ⟨S_, .i32⟩
  | 114 => ⟨S200, .i32⟩
  | 115 => ⟨S200, .i32⟩
  | 116 => ⟨S200, .i32⟩
  | 117 => ⟨S200x1, .i32⟩
  | 118 => ⟨S1, .i32⟩
  | 119 => ⟨S_, .i32⟩
  | 120 => ⟨S200x1, .i32⟩
  | 121 => ⟨S200x1, .i1⟩
  | 122 => ⟨S1x1, .i32⟩
  | 123 => ⟨S200x1, .i32⟩
  | 124 => ⟨S200x1, .i1⟩
  | 125 => ⟨S200x1, .i1⟩
  | 126 => ⟨S_, .i1⟩
  | 127 => ⟨S200, .i1⟩
  | _ => ⟨S33734x4, .f32⟩

abbrev hbmTy0_2 (i : Nat) : BufTy := match i % 128 with
  | 0 => ⟨S200, .i32⟩
  | 1 => ⟨S_, .i32⟩
  | 2 => ⟨S200, .i32⟩
  | 3 => ⟨S200, .i32⟩
  | 4 => ⟨S_, .i32⟩
  | 5 => ⟨S200, .i32⟩
  | 6 => ⟨S200, .i1⟩
  | 7 => ⟨S_, .i32⟩
  | 8 => ⟨S200, .i32⟩
  | 9 => ⟨S200, .i32⟩
  | 10 => ⟨S200, .i32⟩
  | 11 => ⟨S200x1, .i32⟩
  | 12 => ⟨S1, .i32⟩
  | 13 => ⟨S_, .i32⟩
  | 14 => ⟨S200x1, .i32⟩
  | 15 => ⟨S200x1, .i1⟩
  | 16 => ⟨S1x1, .i32⟩
  | 17 => ⟨S200x1, .i32⟩
  | 18 => ⟨S200x1, .i1⟩
  | 19 => ⟨S200x1, .i1⟩
  | 20 => ⟨S_, .i1⟩
  | 21 => ⟨S200, .i1⟩
  | 22 => ⟨S200, .i32⟩
  | 23 => ⟨S_, .i32⟩
  | 24 => ⟨S200, .i32⟩
  | 25 => ⟨S200, .i32⟩
  | 26 => ⟨S1000, .i32⟩
  | 27 => ⟨S_, .i32⟩
  | 28 => ⟨S_, .i32⟩
  | 29 => ⟨S_, .i32⟩
  | 30 => ⟨S_, .i32⟩
  | 31 => ⟨S200, .i32⟩
  | 32 => ⟨S200, .i32⟩
  | 33 => ⟨S200, .i1⟩
  | 34 => ⟨S_, .f32⟩
  | 35 => ⟨S_, .f32⟩
  | 36 => ⟨S200, .f32⟩
  | 37 => ⟨S200, .f32⟩
  | 38 => ⟨S200x1, .i1⟩
  | 39 => ⟨S200x1, .f32⟩
  | 40 => ⟨S200x4, .f32⟩
  | 41 => ⟨S200x4, .f32⟩
  | _ => ⟨S33734x4, .f32⟩

abbrev hbmTy (i : Nat) : BufTy := match i / 128 with
  | 0 => hbmTy0_0 i
  | 1 => hbmTy0_1 i
  | 2 => hbmTy0_2 i
  | _ => ⟨S33734x4, .f32⟩

abbrev bufTy : (tb : Table) → Fin (tcTables nBuf tb) → BufTy
  | .hbm, ⟨i, _⟩ => hbmTy i
  | _, _ => ⟨S33734x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_cst_7 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_call1_v0 : Ref sig .tc := ⟨.hbm, 45, rfl⟩
abbrev main_call1_cst : Ref sig .tc := ⟨.hbm, 46, rfl⟩
abbrev main_call1_c : Ref sig .tc := ⟨.hbm, 47, rfl⟩
abbrev main_call1_v1_0 : Ref sig .tc := ⟨.hbm, 48, rfl⟩
abbrev main_v28 : Ref sig .tc := ⟨.hbm, 49, rfl⟩
abbrev main_values : Ref sig .tc := ⟨.hbm, 50, rfl⟩
abbrev main_indices : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v29 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_c_4 : Ref sig .tc := ⟨.hbm, 94, rfl⟩
abbrev main_call3_v14 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_cst_9 : Ref sig .tc := ⟨.hbm, 112, rfl⟩
abbrev main_call4_v0 : Ref sig .tc := ⟨.hbm, 113, rfl⟩
abbrev main_call4_v1 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_cst_10 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_cst_11 : Ref sig .tc := ⟨.hbm, 154, rfl⟩
abbrev main_v84 : Ref sig .tc := ⟨.hbm, 155, rfl⟩
abbrev main_v85 : Ref sig .tc := ⟨.hbm, 156, rfl⟩
abbrev main_c : Ref sig .tc := ⟨.hbm, 157, rfl⟩
abbrev main_v86_0 : Ref sig .tc := ⟨.hbm, 158, rfl⟩
abbrev main_v86_1 : Ref sig .tc := ⟨.hbm, 159, rfl⟩
abbrev main_v86_2 : Ref sig .tc := ⟨.hbm, 160, rfl⟩
abbrev main_v86_3 : Ref sig .tc := ⟨.hbm, 161, rfl⟩
abbrev main_v86_4 : Ref sig .tc := ⟨.hbm, 162, rfl⟩
abbrev main_while0c_c_22 : Ref sig .tc := ⟨.hbm, 163, rfl⟩
abbrev main_while0c_v102 : Ref sig .tc := ⟨.hbm, 164, rfl⟩
abbrev main_while0b_call5_v0 : Ref sig .tc := ⟨.hbm, 165, rfl⟩
abbrev main_while0b_v102 : Ref sig .tc := ⟨.hbm, 166, rfl⟩
abbrev main_while0b_c_22 : Ref sig .tc := ⟨.hbm, 167, rfl⟩
abbrev main_while0b_c_23 : Ref sig .tc := ⟨.hbm, 168, rfl⟩
abbrev main_while0b_v103 : Ref sig .tc := ⟨.hbm, 169, rfl⟩
abbrev main_while0b_c_24 : Ref sig .tc := ⟨.hbm, 170, rfl⟩
abbrev main_while0b_c_25 : Ref sig .tc := ⟨.hbm, 171, rfl⟩
abbrev main_while0b_v104 : Ref sig .tc := ⟨.hbm, 172, rfl⟩
abbrev main_while0b_c_26 : Ref sig .tc := ⟨.hbm, 173, rfl⟩
abbrev main_while0b_v105 : Ref sig .tc := ⟨.hbm, 174, rfl⟩
abbrev main_while0b_c_27 : Ref sig .tc := ⟨.hbm, 175, rfl⟩
abbrev main_while0b_v106 : Ref sig .tc := ⟨.hbm, 176, rfl⟩
abbrev main_while0b_c_28 : Ref sig .tc := ⟨.hbm, 177, rfl⟩
abbrev main_while0b_v107 : Ref sig .tc := ⟨.hbm, 178, rfl⟩
abbrev main_while0b_v108 : Ref sig .tc := ⟨.hbm, 179, rfl⟩
abbrev main_while0b_v109 : Ref sig .tc := ⟨.hbm, 180, rfl⟩
abbrev main_while0b_v110 : Ref sig .tc := ⟨.hbm, 181, rfl⟩
abbrev main_while0b_cst_29 : Ref sig .tc := ⟨.hbm, 182, rfl⟩
abbrev main_while0b_v111 : Ref sig .tc := ⟨.hbm, 183, rfl⟩
abbrev main_while0b_v112 : Ref sig .tc := ⟨.hbm, 184, rfl⟩
abbrev main_while0b_v113 : Ref sig .tc := ⟨.hbm, 185, rfl⟩
abbrev main_while0b_v114 : Ref sig .tc := ⟨.hbm, 186, rfl⟩
abbrev main_while0b_v115 : Ref sig .tc := ⟨.hbm, 187, rfl⟩
abbrev main_while0b_v116 : Ref sig .tc := ⟨.hbm, 188, rfl⟩
abbrev main_while0b_c_30 : Ref sig .tc := ⟨.hbm, 189, rfl⟩
abbrev main_while0b_v117 : Ref sig .tc := ⟨.hbm, 190, rfl⟩
abbrev main_while0b_c_31 : Ref sig .tc := ⟨.hbm, 191, rfl⟩
abbrev main_while0b_v118 : Ref sig .tc := ⟨.hbm, 192, rfl⟩
abbrev main_while0b_c_32 : Ref sig .tc := ⟨.hbm, 193, rfl⟩
abbrev main_while0b_v119 : Ref sig .tc := ⟨.hbm, 194, rfl⟩
abbrev main_while0b_v120 : Ref sig .tc := ⟨.hbm, 195, rfl⟩
abbrev main_while0b_v121 : Ref sig .tc := ⟨.hbm, 196, rfl⟩
abbrev main_while0b_v122 : Ref sig .tc := ⟨.hbm, 197, rfl⟩
abbrev main_while0b_v123 : Ref sig .tc := ⟨.hbm, 198, rfl⟩
abbrev main_while0b_v124 : Ref sig .tc := ⟨.hbm, 199, rfl⟩
abbrev main_while0b_c_33 : Ref sig .tc := ⟨.hbm, 200, rfl⟩
abbrev main_while0b_v125 : Ref sig .tc := ⟨.hbm, 201, rfl⟩
abbrev main_while0b_c_34 : Ref sig .tc := ⟨.hbm, 202, rfl⟩
abbrev main_while0b_v126 : Ref sig .tc := ⟨.hbm, 203, rfl⟩
abbrev main_while0b_v127 : Ref sig .tc := ⟨.hbm, 204, rfl⟩
abbrev main_while0b_v128 : Ref sig .tc := ⟨.hbm, 205, rfl⟩
abbrev main_while0b_v129 : Ref sig .tc := ⟨.hbm, 206, rfl⟩
abbrev main_while0b_c_35 : Ref sig .tc := ⟨.hbm, 207, rfl⟩
abbrev main_while0b_v130 : Ref sig .tc := ⟨.hbm, 208, rfl⟩
abbrev main_cst_12 : Ref sig .tc := ⟨.hbm, 209, rfl⟩
abbrev main_call6_v0 : Ref sig .tc := ⟨.hbm, 210, rfl⟩
abbrev main_call6_v1 : Ref sig .tc := ⟨.hbm, 211, rfl⟩
abbrev main_v87 : Ref sig .tc := ⟨.hbm, 212, rfl⟩
abbrev main_values_13 : Ref sig .tc := ⟨.hbm, 213, rfl⟩
abbrev main_indices_14 : Ref sig .tc := ⟨.hbm, 214, rfl⟩
abbrev main_call7_c : Ref sig .tc := ⟨.hbm, 215, rfl⟩
abbrev main_call7_v0 : Ref sig .tc := ⟨.hbm, 216, rfl⟩
abbrev main_call7_v1 : Ref sig .tc := ⟨.hbm, 217, rfl⟩
abbrev main_call7_c_0 : Ref sig .tc := ⟨.hbm, 218, rfl⟩
abbrev main_call7_v2 : Ref sig .tc := ⟨.hbm, 219, rfl⟩
abbrev main_call7_v3 : Ref sig .tc := ⟨.hbm, 220, rfl⟩
abbrev main_call7_v4 : Ref sig .tc := ⟨.hbm, 221, rfl⟩
abbrev main_call7_v5 : Ref sig .tc := ⟨.hbm, 222, rfl⟩
abbrev main_call7_c_1 : Ref sig .tc := ⟨.hbm, 223, rfl⟩
abbrev main_call7_c_2 : Ref sig .tc := ⟨.hbm, 224, rfl⟩
abbrev main_call7_v6 : Ref sig .tc := ⟨.hbm, 225, rfl⟩
abbrev main_call7_v7 : Ref sig .tc := ⟨.hbm, 226, rfl⟩
abbrev main_call7_v8 : Ref sig .tc := ⟨.hbm, 227, rfl⟩
abbrev main_call7_v9 : Ref sig .tc := ⟨.hbm, 228, rfl⟩
abbrev main_call7_v10 : Ref sig .tc := ⟨.hbm, 229, rfl⟩
abbrev main_call7_v11 : Ref sig .tc := ⟨.hbm, 230, rfl⟩
abbrev main_call7_c_3 : Ref sig .tc := ⟨.hbm, 231, rfl⟩
abbrev main_call7_v12 : Ref sig .tc := ⟨.hbm, 232, rfl⟩
abbrev main_call7_v13 : Ref sig .tc := ⟨.hbm, 233, rfl⟩
abbrev main_call7_v14 : Ref sig .tc := ⟨.hbm, 234, rfl⟩
abbrev main_call7_cst : Ref sig .tc := ⟨.hbm, 235, rfl⟩
abbrev main_call7_v15 : Ref sig .tc := ⟨.hbm, 236, rfl⟩
abbrev main_v88 : Ref sig .tc := ⟨.hbm, 237, rfl⟩
abbrev main_call8_c : Ref sig .tc := ⟨.hbm, 238, rfl⟩
abbrev main_call8_v0 : Ref sig .tc := ⟨.hbm, 239, rfl⟩
abbrev main_call8_v1 : Ref sig .tc := ⟨.hbm, 240, rfl⟩
abbrev main_call8_c_0 : Ref sig .tc := ⟨.hbm, 241, rfl⟩
abbrev main_call8_v2 : Ref sig .tc := ⟨.hbm, 242, rfl⟩
abbrev main_call8_v3 : Ref sig .tc := ⟨.hbm, 243, rfl⟩
abbrev main_call8_v4 : Ref sig .tc := ⟨.hbm, 244, rfl⟩
abbrev main_call8_v5 : Ref sig .tc := ⟨.hbm, 245, rfl⟩
abbrev main_call8_c_1 : Ref sig .tc := ⟨.hbm, 246, rfl⟩
abbrev main_call8_c_2 : Ref sig .tc := ⟨.hbm, 247, rfl⟩
abbrev main_call8_v6 : Ref sig .tc := ⟨.hbm, 248, rfl⟩
abbrev main_call8_v7 : Ref sig .tc := ⟨.hbm, 249, rfl⟩
abbrev main_call8_v8 : Ref sig .tc := ⟨.hbm, 250, rfl⟩
abbrev main_call8_v9 : Ref sig .tc := ⟨.hbm, 251, rfl⟩
abbrev main_call8_v10 : Ref sig .tc := ⟨.hbm, 252, rfl⟩
abbrev main_call8_v11 : Ref sig .tc := ⟨.hbm, 253, rfl⟩
abbrev main_call8_c_3 : Ref sig .tc := ⟨.hbm, 254, rfl⟩
abbrev main_call8_v12 : Ref sig .tc := ⟨.hbm, 255, rfl⟩
abbrev main_call8_v13 : Ref sig .tc := ⟨.hbm, 256, rfl⟩
abbrev main_call8_c_4 : Ref sig .tc := ⟨.hbm, 257, rfl⟩
abbrev main_call8_v14 : Ref sig .tc := ⟨.hbm, 258, rfl⟩
abbrev main_v89 : Ref sig .tc := ⟨.hbm, 259, rfl⟩
abbrev main_call9_c : Ref sig .tc := ⟨.hbm, 260, rfl⟩
abbrev main_call9_v0 : Ref sig .tc := ⟨.hbm, 261, rfl⟩
abbrev main_call9_v1 : Ref sig .tc := ⟨.hbm, 262, rfl⟩
abbrev main_call9_c_0 : Ref sig .tc := ⟨.hbm, 263, rfl⟩
abbrev main_call9_v2 : Ref sig .tc := ⟨.hbm, 264, rfl⟩
abbrev main_call9_v3 : Ref sig .tc := ⟨.hbm, 265, rfl⟩
abbrev main_call9_v4 : Ref sig .tc := ⟨.hbm, 266, rfl⟩
abbrev main_call9_v5 : Ref sig .tc := ⟨.hbm, 267, rfl⟩
abbrev main_call9_c_1 : Ref sig .tc := ⟨.hbm, 268, rfl⟩
abbrev main_call9_c_2 : Ref sig .tc := ⟨.hbm, 269, rfl⟩
abbrev main_call9_v6 : Ref sig .tc := ⟨.hbm, 270, rfl⟩
abbrev main_call9_v7 : Ref sig .tc := ⟨.hbm, 271, rfl⟩
abbrev main_call9_v8 : Ref sig .tc := ⟨.hbm, 272, rfl⟩
abbrev main_call9_v9 : Ref sig .tc := ⟨.hbm, 273, rfl⟩
abbrev main_call9_v10 : Ref sig .tc := ⟨.hbm, 274, rfl⟩
abbrev main_call9_v11 : Ref sig .tc := ⟨.hbm, 275, rfl⟩
abbrev main_call9_c_3 : Ref sig .tc := ⟨.hbm, 276, rfl⟩
abbrev main_call9_v12 : Ref sig .tc := ⟨.hbm, 277, rfl⟩
abbrev main_call9_v13 : Ref sig .tc := ⟨.hbm, 278, rfl⟩
abbrev main_call9_c_4 : Ref sig .tc := ⟨.hbm, 279, rfl⟩
abbrev main_call9_v14 : Ref sig .tc := ⟨.hbm, 280, rfl⟩
abbrev main_v90 : Ref sig .tc := ⟨.hbm, 281, rfl⟩
abbrev main_v91 : Ref sig .tc := ⟨.hbm, 282, rfl⟩
abbrev main_c_15 : Ref sig .tc := ⟨.hbm, 283, rfl⟩
abbrev main_v92 : Ref sig .tc := ⟨.hbm, 284, rfl⟩
abbrev main_c_16 : Ref sig .tc := ⟨.hbm, 285, rfl⟩
abbrev main_v93 : Ref sig .tc := ⟨.hbm, 286, rfl⟩
abbrev main_v94 : Ref sig .tc := ⟨.hbm, 287, rfl⟩
abbrev main_v95 : Ref sig .tc := ⟨.hbm, 288, rfl⟩
abbrev main_v96 : Ref sig .tc := ⟨.hbm, 289, rfl⟩
abbrev main_cst_17 : Ref sig .tc := ⟨.hbm, 290, rfl⟩
abbrev main_call10_v0 : Ref sig .tc := ⟨.hbm, 291, rfl⟩
abbrev main_call10_v1 : Ref sig .tc := ⟨.hbm, 292, rfl⟩
abbrev main_v97 : Ref sig .tc := ⟨.hbm, 293, rfl⟩
abbrev main_v98 : Ref sig .tc := ⟨.hbm, 294, rfl⟩
abbrev main_v99 : Ref sig .tc := ⟨.hbm, 295, rfl⟩
abbrev main_v100 : Ref sig .tc := ⟨.hbm, 296, rfl⟩
abbrev main_v101 : Ref sig .tc := ⟨.hbm, 297, rfl⟩

abbrev nD : Nat := 1
abbrev τ : Topo := Topo.v7x

variable {F : FTy → Type} [FloatOps F]

abbrev main_while0_count : Scf.Loop 32 := ⟨0#32, 1000#32, 1#32⟩
-- ==== Proof.Mem.lean ====
/-
  Two rules for a body's memory operations, stated with `owns`: a load through a rectangle reads the memref's
  contents at the rectangle's indices, and a store through the whole rectangle leaves its payload.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.KitQuiescent
public import Idealize.ShloMosaic.Lib.Pipeline.ArrRel
public import Idealize.ShloMosaic.Lib.WholeRead
public import Idealize.ShloMosaic.Lib.Tactic

@[expose] public section

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two zero offsets every access of the two bodies' whole windows starts at. -/
theorem hz : (![0, 0] : Fin 2 → Nat) = fun _ => 0 := by
  funext a; fin_cases a <;> rfl

/-- A load reads the owned contents at the rectangle's indices. -/
theorem wp_load_owns (𝒱 : Variants) (c : Dev nD) (bd : Option 𝒱.V) (E : Set ℕ) {α : Type} {sp : CoreSpace} {s : Shape} {e : EltTy}
    {M : Memref sig .tc sp s e} {r : LoadRect s} {hl : M.view.LoadsAt r}
    {k : (r.shape.Idx → Elt F e) → Prog (TpuEff nD τ sig (Elt F) (Λ₀ F) .tc) α} {q : PosShare TreeShare}
    {X : s.Idx → Elt F e} {Q : α → sProp 𝕄} :
    owns (c : Thread nD τ) M q X
      ⊢ iprop((owns (c : Thread nD τ) M q X -∗ wp frame (wpE (defs₀ (F := F)) 𝒱 (c : Thread nD τ) bd) E (k (fun x => X (r.idx x))) Q)
        -∗ wp frame (wpE (defs₀ (F := F)) 𝒱 (c : Thread nD τ) bd) E (.op (.load M r hl) k) Q) := by
  unfold owns
  iintro ⟨%f, %hf, H⟩ Hk
  iapply (wp_load 𝒱 (c : Thread nD τ) bd E (m := M) (View.setOn_subset_set _ _)) $$ H; iintro H
  have e : M.view.readAt (Elt F) r f = fun x => X (r.idx x) := by
    subst hf; rfl
  rw [e]
  iapply Hk
  iexists f
  isplitr
  · ipureintro; exact hf
  · iexact H

/-- A store through the whole rectangle leaves its payload. -/
theorem wp_store_owns (𝒱 : Variants) (c : Dev nD) (bd : Option 𝒱.V) (E : Set ℕ) {α : Type} {sp : CoreSpace} {s : Shape} {e : EltTy}
    {M : Memref sig .tc sp s e} {off : Fin s.rank → ℕ} (h0 : off = fun _ => 0) {inb : ∀ a, off a + s.size a ≤ s.size a}
    {w : s.Idx → Elt F e} {hx : (M.access (Rect.unit off s.size inb)).Stores Finset.univ}
    {hm : (Finset.univ : Finset s.Idx) = Finset.univ ∨ ∀ a, (Rect.unit off s.size inb).stride a = 1}
    {k : PUnit → Prog (TpuEff nD τ sig (Elt F) (Λ₀ F) .tc) α}
    {X : s.Idx → Elt F e} {Q : α → sProp 𝕄} :
    owns (c : Thread nD τ) M fullShare X
      ⊢ iprop((owns (c : Thread nD τ) M fullShare w -∗ wp frame (wpE (defs₀ (F := F)) 𝒱 (c : Thread nD τ) bd) E (k ⟨⟩) Q)
        -∗ wp frame (wpE (defs₀ (F := F)) 𝒱 (c : Thread nD τ) bd) E
          (.op (.store M (Rect.unit off s.size inb) w Finset.univ hx hm) k) Q) := by
  unfold owns
  iintro ⟨%f, %hf, H⟩ Hk
  iapply (wp_store 𝒱 (c : Thread nD τ) bd E (m := M) (r := Rect.unit off s.size inb) (Mk := Finset.univ)
    ((View.setOn_subset_set _ _).trans (View.set_slice_subset _ _))) $$ H
  iintro H
  iapply Hk
  iexists _
  isplitr
  · ipureintro
    swap
    exact (M.access (Rect.unit off s.size inb)).write (Elt F) f w Finset.univ
    funext x
    have := View.read_slice_write_emb (v := M.view) (Rect.unit off s.size inb) f w (M := Finset.univ) (x := x) (Finset.mem_univ _)
    subst h0
    have hx : (Rect.unit (s := s) (fun _ => 0) s.size inb).emb x = x := Rect.emb_whole_apply _ x
    rwa [hx] at this
  · iexact H

/-- A load through the whole rectangle reads the whole contents. -/
theorem wp_load_whole (𝒱 : Variants) (c : Dev nD) (bd : Option 𝒱.V) (E : Set ℕ) {α : Type} {sp : CoreSpace} {s : Shape} {e : EltTy}
    {M : Memref sig .tc sp s e} {off : Fin s.rank → ℕ} (h0 : off = fun _ => 0) {inb : ∀ a, off a + s.size a ≤ s.size a}
    {hl : M.view.LoadsAt (Rect.unit off s.size inb).toLoadRect}
    {k : (s.Idx → Elt F e) → Prog (TpuEff nD τ sig (Elt F) (Λ₀ F) .tc) α} {q : PosShare TreeShare}
    {X : s.Idx → Elt F e} {Q : α → sProp 𝕄} :
    owns (c : Thread nD τ) M q X
      ⊢ iprop((owns (c : Thread nD τ) M q X -∗ wp frame (wpE (defs₀ (F := F)) 𝒱 (c : Thread nD τ) bd) E (k X) Q)
        -∗ wp frame (wpE (defs₀ (F := F)) 𝒱 (c : Thread nD τ) bd) E
          (.op (.load M (Rect.unit off s.size inb).toLoadRect hl) k) Q) := by
  have h := wp_load_owns (F := F) 𝒱 c bd E (M := M) (hl := hl) (k := k) (q := q) (X := X) (Q := Q)
  rwa [show (fun x => X ((Rect.unit off s.size inb).toLoadRect.idx x)) = X from View.ld_unit_zero h0 inb X] at h

end Cert.Proof.K
-- ==== Proof.Region.lean ====
/-
  One region of @main over relational proof data whose invariant is the scoped buffers that it does not stage: entered
  from a set of held buffers that has its arrays, left with the same buffers, the arrays at some contents that they may
  hold after the last write-back.
-/
module

public import proofs.«01_k».proof.Proof.Mem
public import Idealize.ShloMosaic.Lib.Pipeline.RegionArrays
public import Idealize.ShloMosaic.Lib.IdealHost
public import Idealize.ShloMosaic.Lib.Pipeline.RegionsOwned

@[expose] public section

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (RDat)

local notation "𝕀" => MT nD τ sig Unit (Elt Ideal) ℕ (UR sig nD τ) ℕ

/-- No semaphore of the kernels is given a level: nothing of theirs is waited on but the staging copies. -/
abbrev lvls : GSem nD τ sig → Finset Unit := fun _ => ∅
abbrev lvl : GSem nD τ sig → Unit → ℕ := fun _ _ => 0

/-- What rides along with the held buffers: the core owes nothing. -/
def idle (c : Dev nD) : sProp 𝕀 := iprop(∃ W, owes (c : Thread nD τ) (0 : CellTallies nD τ sig Unit) W)

section

variable (rdats : (p : Fin 2) → (c : Dev nD) → RDat τ (Elt Ideal) Unit ℕ (UR sig nD τ) ℕ (Pipeline.pin (pcfgs (F := Ideal)) adm p) c)

/-- A region's arrays at the full share are its array buffers held. -/
theorem rel_arrays_held (p : Fin 2) (kit : Pipeline.PLaunchFacts (nD := nD) (τ := τ) (pcfgs (F := Ideal)) p) (c : Dev nD)
    (hshare : ∀ w, (rdats p c).share w = fullShare)
    (G : (w : Fin (Pipeline.pin (pcfgs (F := Ideal)) adm p).W) → Buf (Elt Ideal) (((Pipeline.pin (pcfgs (F := Ideal)) adm p).win w).arr.view.loc (c.tc : Thread nD τ)))
    (V : Valuation τ sig (Elt Ideal))
    (hG : ∀ w, G w = V (Proc.devRef .tc (Pipeline.arrRef (Pipeline.pin (pcfgs (F := Ideal)) adm p).spec w))) :
    ((rdats p c).arrays G : sProp 𝕀) = StableHlo.held (c.tc : Thread nD τ) (Pipeline.arrRefs (pcfgs (F := Ideal) p).spec) V := by
  rw [RDat.arrays_eq (pcfgs (F := Ideal)) adm rdats p c kit.arr_whole hshare G]
  unfold StableHlo.held Pipeline.arrRefs
  rw [BI.bigSep_map, show Finset.univ.image (Pipeline.arrRef (pcfgs (F := Ideal) p).spec)
      = Finset.univ.map ⟨Pipeline.arrRef (pcfgs (F := Ideal) p).spec, kit.win.arr_inj⟩ from
    (Finset.map_eq_image ⟨Pipeline.arrRef (pcfgs (F := Ideal) p).spec, kit.win.arr_inj⟩ Finset.univ).symm, BI.bigSep_map]
  exact BI.bigSep_congr fun w _ => by rw [hG]; rfl

/-- Some contents for every array at once, out of some contents for each. -/
theorem arraysAt_choose (p : Fin 2) (c : Dev nD) (n : ℕ) :
    ((rdats p c).arraysAt n : sProp 𝕀) ⊢ iprop(∃ G, ⌜∀ w, (rdats p c).ArrAt w n (G w)⌝ ∗ (rdats p c).arrays G) := by
  unfold RDat.arraysAt RDat.arrays
  refine (BI.bigSep_exists_pi Finset.univ _).trans ?_
  iintro ⟨%G, H⟩
  iexists G
  ihave H := (BI.bigSep_pure_sep _ _ _) $$ H
  icases H with ⟨%h, H⟩
  isplitr
  · ipureintro; exact fun w => h w (Finset.mem_univ w)
  iexact H

/-- The region's record. -/
def region (p : Fin 2) (kit : Pipeline.PLaunchFacts (nD := nD) (τ := τ) (pcfgs (F := Ideal)) p) (hK : (pcfgs (F := Ideal) p).pre.K = 0)
    (hbody : ∀ c, (rdats p c).BodyObligation (defs₀ (F := Ideal)) Variants.nat () Set.univ)
    (howed : ∀ c t, (rdats p c).owed t = 0) (hrec : ∀ c, (rdats p c).recorded 0 = Set.univ)
    (hshare : ∀ c w, (rdats p c).share w = fullShare)
    (hΦ : ∀ c t, (rdats p c).Φ t = Pipeline.scopedRest (Pipeline.pin (pcfgs (F := Ideal)) adm p).spec c)
    (S : Finset (DevRef τ sig)) (hS : Pipeline.arrRefs (pcfgs (F := Ideal) p).spec ⊆ S)
    (V : Dev nD → Valuation τ sig (Elt Ideal))
    (mk : (c : Dev nD) → ((w : Fin (Pipeline.pin (pcfgs (F := Ideal)) adm p).W) → Buf (Elt Ideal) (((Pipeline.pin (pcfgs (F := Ideal)) adm p).win w).arr.view.loc (c.tc : Thread nD τ))) → Valuation τ sig (Elt Ideal))
    (hV : ∀ c w, (rdats p c).A w = V c (Proc.devRef .tc (Pipeline.arrRef (Pipeline.pin (pcfgs (F := Ideal)) adm p).spec w)))
    (hmk : ∀ c G, (∀ w, (rdats p c).ArrAt w (Pipeline.pin (pcfgs (F := Ideal)) adm p).N (G w)) → ∀ w, G w = mk c G (Proc.devRef .tc (Pipeline.arrRef (Pipeline.pin (pcfgs (F := Ideal)) adm p).spec w)))
    (hmkO : ∀ c G, ∀ d ∈ S \ Pipeline.arrRefs (pcfgs (F := Ideal) p).spec, mk c G d = V c d) :
    RDat.RegionSeg (pcfgs (F := Ideal)) adm rdats () (defs₀ (F := Ideal)) Variants.nat lvls lvl p where
  win := kit.to₀.win
  block_pos := kit.to₀.block_pos
  stage_whole := kit.to₀.stage_whole
  K := PEmpty
  osem k := k.elim
  ho := Pipeline.OwnSemFacts.none _
  hbody := hbody
  hwaits c := RDat.hwaits_of_owed_zero _ _ _ _ _ _ p howed c
  pre c := iprop(StableHlo.held (c.tc : Thread nD τ) S (V c) ∗ idle c)
  post c := iprop(∃ G, ⌜∀ w, (rdats p c).ArrAt w (Pipeline.pin (pcfgs (F := Ideal)) adm p).N (G w)⌝ ∗ StableHlo.held (c.tc : Thread nD τ) S (mk c G) ∗ idle c)
  X _ := BI.emp
  Y _ := BI.emp
  Z c := StableHlo.held (c.tc : Thread nD τ) (S \ Pipeline.arrRefs (pcfgs (F := Ideal) p).spec) (V c)
  hentry c := by
    rw [Pipeline.ownSems0_none, Pipeline.prefHeld_of_none _ hK, rel_arrays_held rdats p kit c (hshare c) _ (V c) (hV c),
      StableHlo.held_sub_split (c.tc : Thread nD τ) hS (V c)]
    unfold idle
    iintro ⟨⟨⟨Ha, Hr⟩, HO⟩, -, -⟩
    imodintro
    isplitl [Ha]; · iexact Ha
    isplitr; · iempintro
    isplitl [HO]
    · unfold RDat.owesAt RDat.bound Pipeline.owesWithin
      rw [howed c 0, hrec c]
      icases HO with ⟨%W, HO⟩; iexists W; isplitr
      · ipureintro; exact fun _ _ => Or.inl trivial
      iexact HO
    isplitr; · iempintro
    iexact Hr
  hin c := by
    rw [hΦ]
    iintro ⟨-, -, H⟩
    iexact H
  hout c := by
    rw [hΦ, Pipeline.ownSems0_none]
    iintro H
    isplitr; · iempintro
    isplitr; · iempintro
    iexact H
  hexit c := by
    iintro ⟨Ha, HO, -, Hr⟩
    ihave Ha := (arraysAt_choose rdats p c _) $$ Ha
    icases Ha with ⟨%G, %hG, Ha⟩
    imodintro
    iexists G
    isplitr; · ipureintro; exact hG
    rw [StableHlo.held_sub_split (c.tc : Thread nD τ) hS (mk c G), ← rel_arrays_held rdats p kit c (hshare c) G (mk c G) (hmk c G hG),
      StableHlo.held_congr (c.tc : Thread nD τ) (hmkO c G)]
    isplitl [Ha Hr]
    · isplitl [Ha]; · iexact Ha
      iexact Hr
    unfold RDat.owesAt Pipeline.owesWithin idle
    rw [howed c (Fin.last _)]
    icases HO with ⟨%W, -, HO⟩; iexists W; iexact HO

end

end Cert.Proof.K
-- ==== Proof.Off.lean ====
/-
  The buffers of the pre call's results, read by the first host operations after it and by nothing later.
-/
module

public import proofs.«01_k».proof.Proof.Region
public import Idealize.ShloMosaic.Lib.Claim
public import Idealize.ShloMosaic.Lib.StableHlo.RunRead

@[expose] public section

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The three buffers that the pre call leaves. -/
abbrev left0 : Finset (Ref sig .tc) := {main_v6_0, main_v6_1, main_v6_2}

/-- A line of host operations that names none of the three. -/
abbrev Off (ops : List (HloOp τ sig (Elt Ideal))) : Prop := ops.Forall fun op => ∀ b ∈ left0, Proc.devRef .tc b ∉ op.bufs

theorem off1_1 : Off hostOps1_1 := by
  simp only [Off, List.Forall]; repeat' apply And.intro
  all_goals decide

theorem off1_2 : Off hostOps1_2 := by
  simp only [Off, List.Forall]; repeat' apply And.intro
  all_goals decide

theorem off1_3 : Off hostOps1_3 := by
  simp only [Off, List.Forall]; repeat' apply And.intro
  all_goals decide

theorem off1_4 : Off hostOps1_4 := by
  simp only [Off, List.Forall]; repeat' apply And.intro
  all_goals decide

theorem off1_5 : Off hostOps1_5 := by
  simp only [Off, List.Forall]; repeat' apply And.intro
  all_goals decide

theorem off1_6 : Off hostOps1_6 := by
  simp only [Off, List.Forall]; repeat' apply And.intro
  all_goals decide

theorem off1_7 : Off hostOps1_7 := by
  simp only [Off, List.Forall]; repeat' apply And.intro
  all_goals decide

theorem off2 : Off hostOps2 := by
  simp only [Off, List.Forall]; repeat' apply And.intro
  all_goals decide

theorem off2_1 : Off hostOps2_1 := by
  simp only [Off, List.Forall]; repeat' apply And.intro
  all_goals decide

theorem off2_2 : Off hostOps2_2 := by
  simp only [Off, List.Forall]; repeat' apply And.intro
  all_goals decide

theorem off2_3 : Off hostOps2_3 := by
  simp only [Off, List.Forall]; repeat' apply And.intro
  all_goals decide

theorem off2_4 : Off hostOps2_4 := by
  simp only [Off, List.Forall]; repeat' apply And.intro
  all_goals decide

theorem off2_5 : Off hostOps2_5 := by
  simp only [Off, List.Forall]; repeat' apply And.intro
  all_goals decide

theorem off2_6 : Off hostOps2_6 := by
  simp only [Off, List.Forall]; repeat' apply And.intro
  all_goals decide

theorem off2_7 : Off hostOps2_7 := by
  simp only [Off, List.Forall]; repeat' apply And.intro
  all_goals decide

theorem off2_8 : Off hostOps2_8 := by
  simp only [Off, List.Forall]; repeat' apply And.intro
  all_goals decide

/-- The first line after the pre call writes the same whichever contents the call's rows past the array's end hold. -/
theorem after1_agree (V V' : Valuation τ sig (Elt Ideal))
    (h0 : extractStridedSlice S33734x1 ![0, 0] (V main_v6_0) slices_S33792x1_S33734x1_0_0 = extractStridedSlice S33734x1 ![0, 0] (V' main_v6_0) slices_S33792x1_S33734x1_0_0)
    (h1 : extractStridedSlice S33734x1 ![0, 0] (V main_v6_1) slices_S33792x1_S33734x1_0_0 = extractStridedSlice S33734x1 ![0, 0] (V' main_v6_1) slices_S33792x1_S33734x1_0_0)
    (h2 : extractStridedSlice S33734x4 ![0, 0] (V main_v6_2) slices_S33792x4_S33734x4_0_0 = extractStridedSlice S33734x4 ![0, 0] (V' main_v6_2) slices_S33792x4_S33734x4_0_0)
    (r : Ref sig .tc) (hr : r ∈ hostOps1_W) : StableHlo.after hostOps1 V (Proc.devRef .tc r) = StableHlo.after hostOps1 V' (Proc.devRef .tc r) := by
  simp only [List.mem_cons, List.not_mem_nil, or_false] at hr
  rcases hr with rfl | rfl | rfl | rfl | rfl | rfl | rfl
  all_goals after_results
  all_goals simp only [h0, h1, h2]

end Cert.Proof.K
-- ==== Proof.Body0.lean ====
/-
  The body of the pre call over any whole staging memrefs: it leaves its three inputs as they were, and its three
  outputs at the row maxima, the class indices and the decoded boxes of the inputs' contents.
-/
module

public import proofs.«01_k».proof.Proof.Mem

@[expose] public section

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (𝒱 : Variants) (c : Dev nD) (bd : Option 𝒱.V) (E : Set ℕ)
variable (M1 : Memref sig .tc .vmem S1024x21 .f32) (M2 M3 : Memref sig .tc .vmem S1024x4 .f32)
  (M4 : Memref sig .tc .vmem S1024x1 .f32) (M5 : Memref sig .tc .vmem S1024x1 .i32) (M6 : Memref sig .tc .vmem S1024x4 .f32)

/-- The six staging memrefs at given contents. -/
def held0 (X1 : FVec F S1024x21 .f32) (X2 X3 : FVec F S1024x4 .f32) (Y4 : FVec F S1024x1 .f32) (Y5 : IVec S1024x1 32)
    (Y6 : FVec F S1024x4 .f32) : sProp 𝕄 :=
  iprop(owns (c : Thread nD τ) M1 fullShare X1 ∗ owns (c : Thread nD τ) M2 fullShare X2 ∗ owns (c : Thread nD τ) M3 fullShare X3
    ∗ owns (c : Thread nD τ) M4 fullShare Y4 ∗ owns (c : Thread nD τ) M5 fullShare Y5 ∗ owns (c : Thread nD τ) M6 fullShare Y6)

/-- The pre call's body. -/
theorem body0 (i : grid0.Coords) (h1 : M1.IsWhole) (h2 : M2.IsWhole) (h3 : M3.IsWhole) (h4 : M4.IsWhole) (h5 : M5.IsWhole)
    (h6 : M6.IsWhole) (X1 : FVec F S1024x21 .f32) (X2 X3 : FVec F S1024x4 .f32) (Y4 : FVec F S1024x1 .f32) (Y5 : IVec S1024x1 32)
    (Y6 : FVec F S1024x4 .f32) (Q : PUnit → sProp 𝕄) :
    held0 c M1 M2 M3 M4 M5 M6 X1 X2 X3 Y4 Y5 Y6
      ⊢ iprop((held0 c M1 M2 M3 M4 M5 M6 X1 X2 X3 (k0_pay2 X1) (k0_pay3 X1) (k0_pay4 X2 X3) -∗ Q ⟨⟩)
        -∗ wp frame (wpE (defs₀ (F := F)) 𝒱 (c : Thread nD τ) bd) E (cc0__pre_kernel i M1 h1 M2 h2 M3 h3 M4 h4 M5 h5 M6 h6) Q) := by
  rw [cc0__pre_kernel_eq_skeleton]; unfold cc0__pre_kernel_skel
  rw [k0_part1_eq_skeleton]; unfold k0_part1_skel
  simp only [Prog.lift, Prog.bind_op, Prog.bind_ret, Prog.pure_eq_ret]
  unfold held0
  iintro ⟨H1, H2, H3, H4, H5, H6⟩ Hk
  iapply (wp_load_whole 𝒱 c bd E (M := M1) hz) $$ H1; iintro H1
  iapply (wp_load_whole 𝒱 c bd E (M := M2) hz) $$ H2; iintro H2
  iapply (wp_load_whole 𝒱 c bd E (M := M3) hz) $$ H3; iintro H3
  iapply (wp_load_owns 𝒱 c bd E (M := M4)) $$ H4; iintro H4
  iapply (wp_store_owns 𝒱 c bd E (M := M4) hz) $$ H4; iintro H4
  iapply (wp_load_owns 𝒱 c bd E (M := M5)) $$ H5; iintro H5
  iapply (wp_store_owns 𝒱 c bd E (M := M5) hz) $$ H5; iintro H5
  iapply (wp_load_owns 𝒱 c bd E (M := M6)) $$ H6; iintro H6
  iapply (wp_store_owns 𝒱 c bd E (M := M6) hz) $$ H6; iintro H6
  rw [wp_ret]; imodintro
  iapply Hk
  isplitl [H1]; · iexact H1
  isplitl [H2]; · iexact H2
  isplitl [H3]; · iexact H3
  isplitl [H4]; · iexact H4
  isplitl [H5]; · iexact H5
  iexact H6

end Cert.Proof.K
-- ==== Proof.Body1.lean ====
/-
  The body of the suppression call over any whole staging memrefs: the loop's label is met by its specification by
  induction on the number of trips left, given that the iteration settles; the body then leaves the settled vector.
-/
module

public import proofs.«01_k».proof.Proof.Body0

@[expose] public section

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The variants: naturals, the loop's trips left. -/
abbrev 𝒱₀ : Variants := Variants.nat

/-- One trip of the loop on a vector `k`: what the loop carries next. -/
abbrev trip (v : FVec F S1x1024 .f32) (B : FVec F S1024x1024 .bf16) (k : FVec F S1x1024 .f32) : FVec F S1x1024 .f32 := k1_pay3 v k B

/-- The word the loop's next test reads after a trip on `k`. -/
def again (v : FVec F S1x1024 .f32) (B : FVec F S1024x1024 .bf16) (k : FVec F S1x1024 .f32) : BitVec 1 :=
  Scalar.cmpf .ogt (k1_pay4 v k B) (Scalar.ofBits .f32 0x00000000#32)

/-- The vector after `t` trips. -/
def trips (v : FVec F S1x1024 .f32) (B : FVec F S1024x1024 .bf16) (t : ℕ) : FVec F S1x1024 .f32 := (trip v B)^[t] v

theorem trips_succ (v : FVec F S1x1024 .f32) (B : FVec F S1024x1024 .bf16) (t : ℕ) : trips v B (t + 1) = trip v B (trips v B t) :=
  Function.iterate_succ_apply' _ _ _

/-- The loop settles by trip `N`: while a trip asks for another, `N` is not reached; and once a trip asks for none,
the vector it made is the one of trip `N`. -/
def Settles (v : FVec F S1x1024 .f32) (B : FVec F S1024x1024 .bf16) (N : ℕ) : Prop :=
  ∀ t, t ≤ N → (again v B (trips v B t) = 1#1 → t < N) ∧ (again v B (trips v B t) ≠ 1#1 → trips v B (t + 1) = trips v B N)

variable (c : Dev nD)

section Label

variable (M : Memref sig .tc .vmem S1024x1024 .bf16) (hM : M.IsWhole) (v : FVec F S1x1024 .f32) (B : FVec F S1024x1024 .bf16) (N : ℕ)

/-- The label's specification: the mask is read and comes back, and the result's vector is the settled one. -/
def spec : sWPT 𝕄 (FVec F S1x1024 .f32 × BitVec 1) := do
  sWPT.consume (owns (c : Thread nD τ) M fullShare B)
  let r ← sWPT.arbitrary
  sWPT.assume (r.1 = trips v B N)
  sWPT.produce (owns (c : Thread nD τ) M fullShare B)
  pure r

theorem spec_apply (K : FVec F S1x1024 .f32 × BitVec 1 → sProp 𝕄) :
    spec c M v B N K = iprop(owns (c : Thread nD τ) M fullShare B ∗ ∀ r : FVec F S1x1024 .f32 × BitVec 1,
      ⌜r.1 = trips v B N⌝ -∗ (owns (c : Thread nD τ) M fullShare B -∗ K r)) := rfl

/-- The label entered after `t` trips, at most `N` if it is to run again and settled if not, meets the
specification, with `n` the trips left before `N + 1`. -/
theorem spec_le (hs : Settles v B N) (E : Set ℕ) :
    ∀ n t, t + n = N + 1 → ∀ b : BitVec 1, (b = 1#1 → t ≤ N) → (b ≠ 1#1 → trips v B t = trips v B N) → ∀ K, spec c M v B N K
      ⊢ wp frame (wpE (defs₀ (F := F)) 𝒱₀ (c : Thread nD τ) (some n)) E
          (defs₀ (F := F) .tc 2 ⟨M, hM, v, trips v B t, b⟩) K := by
  intro n
  induction n with
  | zero =>
    intro t ht b h1 h2 K
    have hb : ¬ b = 1#1 := fun h => by have := h1 h; omega
    rw [spec_apply]
    show _ ⊢ wp frame (wpE (defs₀ (F := F)) 𝒱₀ (c : Thread nD τ) (some 0)) E (cc1_while1 M hM v (trips v B t) b) K
    simp only [cc1_while1_eq_skeleton]; unfold cc1_while1_skel
    simp only [hb, ↓reduceIte, Prog.pure_eq_ret]
    iintro ⟨H, Hk⟩
    rw [wp_ret]; imodintro
    iapply Hk
    · ipureintro; exact h2 hb
    · iexact H
  | succ n ih =>
    intro t ht b h1 h2 K
    rw [spec_apply]
    show _ ⊢ wp frame (wpE (defs₀ (F := F)) 𝒱₀ (c : Thread nD τ) (some (n + 1))) E (cc1_while1 M hM v (trips v B t) b) K
    simp only [cc1_while1_eq_skeleton]; unfold cc1_while1_skel
    by_cases hb : b = 1#1
    · simp only [hb, ↓reduceIte, Prog.lift, Prog.bind_op, Prog.bind_ret, Prog.pure_eq_ret]
      have htN := h1 hb
      iintro ⟨H, Hk⟩
      iapply (wp_load_whole 𝒱₀ c (some (n + 1)) E (M := M) hz) $$ H; iintro H
      have key := ih (t + 1) (by omega) (again v B (trips v B t)) (fun h => (hs t htN).1 h) (fun h => (hs t htN).2 h)
      rw [trips_succ] at key
      iapply (wp_call_spec 𝒱₀ (c : Thread nD τ) (some (n + 1)) E (spec c M v B N) n
        (fun u hu => by cases hu; exact Nat.lt_succ_self n) key)
      rw [spec_apply]
      isplitl [H]; · iexact H
      iintro %r %hr H
      rw [wp_ret]; imodintro
      iapply Hk
      · ipureintro; exact hr
      · iexact H
    · simp only [hb, ↓reduceIte, Prog.pure_eq_ret]
      iintro ⟨H, Hk⟩
      rw [wp_ret]; imodintro
      iapply Hk
      · ipureintro; exact h2 hb
      · iexact H

end Label

/-- One column of the boxes, and one row of the transposed boxes, as the body loads them. -/
def boxCol (X : FVec F S1024x4 .f32) (k : ℕ) (h : ∀ a, (![0, k] : Fin 2 → ℕ) a + S1024x1.size a ≤ S1024x4.size a) : FVec F S1024x1 .f32 :=
  fun x => X ((Rect.unit (s := S1024x4) ![0, k] S1024x1.size h).toLoadRect.idx x)

@[inherit_doc boxCol]
def boxRow (X : FVec F S4x1024 .f32) (k : ℕ) (h : ∀ a, (![k, 0] : Fin 2 → ℕ) a + S1x1024.size a ≤ S4x1024.size a) : FVec F S1x1024 .f32 :=
  fun x => X ((Rect.unit (s := S4x1024) ![k, 0] S1x1024.size h).toLoadRect.idx x)

/-- The mask the body makes of the boxes and their transpose. -/
def maskOf (X0 : FVec F S1024x4 .f32) (X1 : FVec F S4x1024 .f32) : FVec F S1024x1024 .bf16 :=
  k1_pay1
    (k1_pay13 (boxCol X0 0 inb_S1024x4_S1024x1_0_0) (boxCol X0 1 inb_S1024x4_S1024x1_0_1) (boxCol X0 2 inb_S1024x4_S1024x1_0_2)
      (boxCol X0 3 inb_S1024x4_S1024x1_0_3) (boxRow X1 0 inb_S4x1024_S1x1024_0_0) (boxRow X1 1 inb_S4x1024_S1x1024_1_0)
      (boxRow X1 2 inb_S4x1024_S1x1024_2_0) (boxRow X1 3 inb_S4x1024_S1x1024_3_0))
    (k1_pay14 (boxRow X1 0 inb_S4x1024_S1x1024_0_0) (boxRow X1 1 inb_S4x1024_S1x1024_1_0)
      (boxRow X1 2 inb_S4x1024_S1x1024_2_0) (boxRow X1 3 inb_S4x1024_S1x1024_3_0))
    (k1_pay15 (boxCol X0 0 inb_S1024x4_S1024x1_0_0) (boxCol X0 1 inb_S1024x4_S1024x1_0_1) (boxCol X0 2 inb_S1024x4_S1024x1_0_2)
      (boxCol X0 3 inb_S1024x4_S1024x1_0_3))

variable (E : Set ℕ)
variable (M0 : Memref sig .tc .vmem S1024x4 .f32) (M1 : Memref sig .tc .vmem S4x1024 .f32)
  (M2 M3 : Memref sig .tc .vmem S1x1024 .f32) (M4 : Memref sig .tc .vmem S1024x1024 .bf16)

/-- The call's four staging memrefs and its scratch at given contents. -/
def held1 (X0 : FVec F S1024x4 .f32) (X1 : FVec F S4x1024 .f32) (X2 Y3 : FVec F S1x1024 .f32) (Y4 : FVec F S1024x1024 .bf16) : sProp 𝕄 :=
  iprop(owns (c : Thread nD τ) M0 fullShare X0 ∗ owns (c : Thread nD τ) M1 fullShare X1 ∗ owns (c : Thread nD τ) M2 fullShare X2
    ∗ owns (c : Thread nD τ) M3 fullShare Y3 ∗ owns (c : Thread nD τ) M4 fullShare Y4)

/-- The suppression call's body. -/
theorem body1 (h0 : M0.IsWhole) (h1 : M1.IsWhole) (h2 : M2.IsWhole) (h3 : M3.IsWhole) (h4 : M4.IsWhole)
    (X0 : FVec F S1024x4 .f32) (X1 : FVec F S4x1024 .f32) (X2 Y3 : FVec F S1x1024 .f32) (Y4 : FVec F S1024x1024 .bf16) (N : ℕ)
    (hs : Settles (k1_pay2 X2) (maskOf X0 X1) N) (Q : PUnit → sProp 𝕄) :
    held1 c M0 M1 M2 M3 M4 X0 X1 X2 Y3 Y4
      ⊢ iprop((held1 c M0 M1 M2 M3 M4 X0 X1 X2 (trips (k1_pay2 X2) (maskOf X0 X1) N) (maskOf X0 X1) -∗ Q ⟨⟩)
        -∗ wp frame (wpE (defs₀ (F := F)) 𝒱₀ (c : Thread nD τ) none) E (cc1__nms_kernel M0 h0 M1 h1 M2 h2 M3 h3 M4 h4) Q) := by
  rw [cc1__nms_kernel_eq_skeleton]; unfold cc1__nms_kernel_skel
  rw [k1_part1_eq_skeleton]; unfold k1_part1_skel
  simp only [Prog.lift, Prog.bind_op, Prog.bind_ret, Prog.pure_eq_ret]
  unfold held1
  iintro ⟨H0, H1, H2, H3, H4⟩ Hk
  iapply (wp_load_owns 𝒱₀ c none E (M := M0)) $$ H0; iintro H0
  iapply (wp_load_owns 𝒱₀ c none E (M := M0)) $$ H0; iintro H0
  iapply (wp_load_owns 𝒱₀ c none E (M := M0)) $$ H0; iintro H0
  iapply (wp_load_owns 𝒱₀ c none E (M := M0)) $$ H0; iintro H0
  iapply (wp_load_owns 𝒱₀ c none E (M := M1)) $$ H1; iintro H1
  iapply (wp_load_owns 𝒱₀ c none E (M := M1)) $$ H1; iintro H1
  iapply (wp_load_owns 𝒱₀ c none E (M := M1)) $$ H1; iintro H1
  iapply (wp_load_owns 𝒱₀ c none E (M := M1)) $$ H1; iintro H1
  iapply (wp_load_owns 𝒱₀ c none E (M := M4)) $$ H4; iintro H4
  iapply (wp_store_owns 𝒱₀ c none E (M := M4) hz) $$ H4; iintro H4
  iapply (wp_load_whole 𝒱₀ c none E (M := M2) hz) $$ H2; iintro H2
  iapply (wp_call_spec 𝒱₀ (c : Thread nD τ) none E (spec c M4 (k1_pay2 X2) (maskOf X0 X1) N) (N + 1) (fun u hu => nomatch hu)
    (spec_le c M4 h4 (k1_pay2 X2) (maskOf X0 X1) N hs E (N + 1) 0 (by omega) 1#1 (fun _ => Nat.zero_le _) (fun h => absurd rfl h)))
  rw [spec_apply]
  isplitl [H4]; · iexact H4
  iintro %r %hr H4
  iapply (wp_load_owns 𝒱₀ c none E (M := M3)) $$ H3; iintro H3
  iapply (wp_store_owns 𝒱₀ c none E (M := M3) hz) $$ H3; iintro H3
  rw [wp_ret, hr]; imodintro
  iapply Hk
  isplitl [H0]; · iexact H0
  isplitl [H1]; · iexact H1
  isplitl [H2]; · iexact H2
  isplitl [H3]; · iexact H3
  iexact H4

end Cert.Proof.K
-- ==== Proof.Nms.lean ====
/-
  Greedy suppression, as plain mathematics: the set of kept rows defined row by row, the rounds that recompute every
  row at once, and the sequential pass that clears one row's suppressed rows after another. All three agree.
-/
module

public import Idealize.ShloMosaic.Lib.Tactic

@[expose] public section

namespace Cert.Proof.K

/-- Row `j` is kept: it is a candidate and no earlier kept row suppresses it. -/
def nms {n : ℕ} (S : Fin n → Fin n → Prop) (a : Fin n → Prop) (j : Fin n) : Prop :=
  a j ∧ ∀ i : Fin n, i < j → nms S a i → ¬ S i j
termination_by j.val

theorem nms_iff {n : ℕ} (S : Fin n → Fin n → Prop) (a : Fin n → Prop) (j : Fin n) :
    nms S a j ↔ a j ∧ ∀ i : Fin n, i < j → nms S a i → ¬ S i j := by
  rw [nms]

/-- The kept rows among the first `n` of `m` depend on nothing past them. -/
theorem nms_castLE {n m : ℕ} (h : n ≤ m) (S : Fin n → Fin n → Prop) (a : Fin n → Prop) (S' : Fin m → Fin m → Prop) (a' : Fin m → Prop)
    (ha : ∀ j, a j ↔ a' (Fin.castLE h j)) (hS : ∀ i j, i < j → (S i j ↔ S' (Fin.castLE h i) (Fin.castLE h j))) :
    ∀ j : Fin n, nms S a j ↔ nms S' a' (Fin.castLE h j) := by
  have key : ∀ k : ℕ, ∀ j : Fin n, j.val = k → (nms S a j ↔ nms S' a' (Fin.castLE h j)) := by
    intro k
    induction k using Nat.strong_induction_on with
    | _ k ih =>
      intro j hj
      rw [nms_iff, nms_iff, ha j]
      refine and_congr_right fun _ => ⟨fun H i hi hn => ?_, fun H i hi hn => ?_⟩
      · have hi' : i.val < n := lt_trans hi j.isLt
        have hlt : (⟨i.val, hi'⟩ : Fin n) < j := hi
        have := H ⟨i.val, hi'⟩ hlt ((ih i.val (hj ▸ hi) ⟨i.val, hi'⟩ rfl).2 hn)
        rwa [hS _ _ hlt] at this
      · have := H (Fin.castLE h i) hi ((ih i.val (hj ▸ hi) i rfl).1 hn)
        rwa [hS _ _ hi]
  exact fun j => key j.val j rfl

section Rounds

variable {n : ℕ} (S : Fin n → Fin n → Prop) (a : Fin n → Prop)

/-- One round: a row stays if it is a candidate and no earlier row of the set suppresses it. -/
def round (p : Fin n → Prop) (j : Fin n) : Prop := a j ∧ ¬ ∃ i, p i ∧ i < j ∧ S i j

/-- After `t` rounds from the candidates, the first `t + 1` rows are settled. -/
theorem rounds_eq (t : ℕ) : ∀ j : Fin n, j.val ≤ t → ((round S a)^[t] a j ↔ nms S a j) := by
  induction t with
  | zero =>
    intro j hj
    rw [nms_iff]
    refine ⟨fun h => ⟨h, fun i hi => ?_⟩, fun h => h.1⟩
    have : i.val < j.val := hi
    omega
  | succ t ih =>
    intro j hj
    rw [Function.iterate_succ_apply', nms_iff]
    refine and_congr_right fun _ => ⟨fun H i hi hn hS => H ⟨i, (ih i ?_).2 hn, hi, hS⟩, fun H => ?_⟩
    · have : i.val < j.val := hi
      omega
    · rintro ⟨i, hp, hi, hS⟩
      have : i.val < j.val := hi
      exact H i hi ((ih i (by omega)).1 hp) hS

/-- A set a round leaves alone is the kept rows. -/
theorem round_fixed (p : Fin n → Prop) (h : ∀ j, round S a p j ↔ p j) (j : Fin n) : p j ↔ nms S a j := by
  have key : ∀ k : ℕ, ∀ j : Fin n, j.val = k → (p j ↔ nms S a j) := by
    intro k
    induction k using Nat.strong_induction_on with
    | _ k ih =>
      intro j hj
      rw [← h j, nms_iff]
      refine and_congr_right fun _ => ⟨fun H i hi hn hS => H ⟨i, (ih i.val (hj ▸ hi) i rfl).2 hn, hi, hS⟩, fun H => ?_⟩
      rintro ⟨i, hp, hi, hS⟩
      exact H i hi ((ih i.val (hj ▸ hi) i rfl).1 hp) hS
  exact key j.val j rfl

end Rounds

section Pass

variable {n : ℕ} (S : Fin n → Fin n → Prop) (a : Fin n → Prop)

/-- A sequential pass: step `t` changes row `t` alone, to "it is in the set and no earlier row of the set suppresses
it". After `t` steps the first `t` rows are the kept rows and the others the candidates. -/
theorem pass_eq (K : ℕ → Fin n → Prop) (h0 : ∀ j, K 0 j ↔ a j)
    (hs : ∀ t, ∀ ht : t < n, ∀ j, K (t + 1) j ↔ if j.val = t then K t j ∧ ¬ ∃ i, S i j ∧ K t i ∧ i < j else K t j) :
    ∀ t, t ≤ n → ∀ j, K t j ↔ if j.val < t then nms S a j else a j := by
  intro t
  induction t with
  | zero => intro _ j; simp [h0]
  | succ t ih =>
    intro ht j
    rw [hs t (by omega) j]
    have ih' := ih (by omega)
    by_cases hj : j.val = t
    · rw [if_pos hj, if_pos (by omega), nms_iff, ih' j, if_neg (by omega)]
      refine and_congr_right fun _ => ⟨fun H i hi hn hS => H ⟨i, hS, ?_, hi⟩, fun H => ?_⟩
      · have : i.val < j.val := hi
        rw [ih' i, if_pos (by omega)]; exact hn
      · rintro ⟨i, hS, hp, hi⟩
        have : i.val < j.val := hi
        rw [ih' i, if_pos (by omega)] at hp
        exact H i hi hp hS
    · rw [if_neg hj, ih' j]
      by_cases hlt : j.val < t
      · rw [if_pos hlt, if_pos (by omega)]
      · rw [if_neg hlt, if_neg (by omega)]

end Pass

end Cert.Proof.K
-- ==== Proof.Rounds.lean ====
/-
  The suppression loop over the extended reals: its vectors are 0/1 vectors of sets of rows, a trip is a round of
  the suppression, the loop settles, and what it settles at is the kept rows.
-/
module

public import proofs.«01_k».proof.Proof.Body1
public import proofs.«01_k».proof.Proof.Nms
public import Idealize.ShloMosaic.Lib.Pointwise
public import Idealize.ShloMosaic.Lib.IdealHost

@[expose] public section

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Classical in
/-- The 0/1 vector of a set of rows. -/
def enc (p : Fin 1024 → Prop) : FVec Ideal S1x1024 .f32 := fun x => if p (x 1) then (1 : EReal) else 0

theorem enc_apply (p : Fin 1024 → Prop) (j : Fin 1024) : enc p (ix2 0 j) = (by classical exact if p j then (1 : EReal) else 0) := rfl

theorem enc_inj {p q : Fin 1024 → Prop} (h : enc p = enc q) (j : Fin 1024) : p j ↔ q j := by
  have e := congrFun h (ix2 0 j)
  rw [enc_apply, enc_apply] at e
  by_cases hp : p j <;> by_cases hq : q j <;> simp_all

/-- Two one-row vectors equal at every column are equal. -/
theorem row_ext {U V : FVec Ideal S1x1024 .f32} (h : ∀ j : Fin 1024, U (ix2 0 j) = V (ix2 0 j)) : U = V := by
  funext x
  obtain ⟨a, b, rfl⟩ : ∃ (a : Fin 1) (b : Fin 1024), x = ix2 a b := ⟨x 0, x 1, eq_ix2 x⟩
  rw [Subsingleton.elim a 0]; exact h b

/-- A widened bit as a float. -/
theorem sitofp_bit (b : Prop) [Decidable b] :
    (FloatOps.sitofp .f32 (BitVec.setWidth 32 (BitVec.ofBool (decide b))) : Ideal .f32) = if b then (1 : EReal) else 0 := by
  by_cases h : b
  · rw [if_pos h]; simp only [h, decide_true]
    show (((BitVec.setWidth 32 (BitVec.ofBool true)).toInt : ℝ) : EReal) = 1
    rw [show (BitVec.setWidth 32 (BitVec.ofBool true)).toInt = 1 from by decide]; norm_num
  · rw [if_neg h]; simp only [h, decide_false]
    show (((BitVec.setWidth 32 (BitVec.ofBool false)).toInt : ℝ) : EReal) = 0
    rw [show (BitVec.setWidth 32 (BitVec.ofBool false)).toInt = 0 from by decide]; norm_num

/-- The candidates of a vector of scores: the rows above the score threshold. -/
def cand (X : FVec Ideal S1x1024 .f32) (j : Fin 1024) : Prop := Ideal.ofBits .f32 0x3D4CCCCD#32 < X (ix2 0 j)

theorem pay2_enc (X : FVec Ideal S1x1024 .f32) : k1_pay2 (F := Ideal) X = enc (cand X) := by
  refine row_ext fun j => ?_
  rw [enc_apply]
  unfold k1_pay2
  pointwise
  rw [sitofp_bit]
  unfold cand
  congr

/-- A mask of zeros and ones: `S i j` where it is one. -/
def IsMask (B : FVec Ideal S1024x1024 .bf16) (S : Fin 1024 → Fin 1024 → Prop) : Prop :=
  ∀ i j, B (ix2 i j) = (by classical exact if i < j ∧ S i j then (1 : EReal) else 0)

variable {B : FVec Ideal S1024x1024 .bf16} {S : Fin 1024 → Fin 1024 → Prop} (hB : IsMask B S)

include hB in
/-- A trip on the 0/1 vector of a set is the 0/1 vector of the set's round. -/
theorem trip_enc (a p : Fin 1024 → Prop) : trip (enc a) B (enc p) = enc (round S a p) := by
  classical
  refine row_ext fun j => ?_
  rw [enc_apply]
  unfold trip k1_pay3
  pointwise
  rw [sitofp_bit, enc_apply]
  have hsum : (∑ i, enc p (ix2 0 i) * B (ix2 i j) = 0) ↔ ¬ ∃ i, p i ∧ i < j ∧ S i j := by
    have hterm : ∀ i, enc p (ix2 0 i) * B (ix2 i j) = if p i ∧ i < j ∧ S i j then (1 : EReal) else 0 := by
      intro i
      rw [enc_apply, hB i j]
      by_cases h1 : p i <;> by_cases h2 : i < j ∧ S i j <;> simp [h1, h2]
    rw [Finset.sum_congr rfl fun i _ => hterm i, Finset.sum_eq_zero_iff_of_nonneg]
    · constructor
      · rintro h ⟨i, hi⟩
        have := h i (Finset.mem_univ _)
        rw [if_pos hi] at this
        exact one_ne_zero this
      · intro h i _
        rw [if_neg fun hi => h ⟨i, hi⟩]
    · intro i _; split_ifs <;> norm_num
  unfold round
  by_cases h1 : a j <;> by_cases h2 : ∃ i, p i ∧ i < j ∧ S i j
  · rw [if_pos h1, if_neg (fun h => hsum.1 h h2), if_neg (fun h => h.2 h2), mul_zero]
  · rw [if_pos h1, if_pos (hsum.2 h2), if_pos ⟨h1, h2⟩, mul_one]
  · rw [if_neg h1, zero_mul, if_neg (fun h => h1 h.1)]
  · rw [if_neg h1, zero_mul, if_neg (fun h => h1 h.1)]

/-- The loop asks for another trip exactly when the trip changed the vector. -/
theorem again_iff (v k : FVec Ideal S1x1024 .f32) (B : FVec Ideal S1024x1024 .bf16) : again v B k = 1#1 ↔ trip v B k ≠ k := by
  classical
  have hbot : ¬ (0 : EReal) < Ideal.ofBits .f32 4286578688#32 := by
    simp [Ideal.ofBits, Ideal.ieee]
  have key : again v B k = BitVec.ofBool (decide (∃ j : Fin 1024, trip v B k (ix2 0 j) ≠ k (ix2 0 j))) := by
    unfold again k1_pay4
    pointwise
    congr 1
    rw [decide_eq_decide, Finset.lt_fold_max]
    constructor
    · rintro (h | ⟨x, -, hx⟩)
      · exact absurd h hbot
      · refine ⟨x.2, fun e => ?_⟩
        rw [if_neg (not_not.2 e)] at hx
        exact lt_irrefl _ hx
    · rintro ⟨j, hj⟩
      refine Or.inr ⟨(0, j), Finset.mem_univ _, ?_⟩
      rw [if_pos hj]; exact zero_lt_one
  rw [key]
  constructor
  · intro h e
    rw [e] at h
    simp at h
  · intro h
    have : ∃ j : Fin 1024, trip v B k (ix2 0 j) ≠ k (ix2 0 j) := by
      by_contra hn
      exact h (row_ext fun j => by by_contra hj; exact hn ⟨j, hj⟩)
    simp [this]

include hB in
theorem trips_enc (a : Fin 1024 → Prop) (t : ℕ) : trips (enc a) B t = enc ((round S a)^[t] a) := by
  induction t with
  | zero => rfl
  | succ t ih => rw [trips_succ, ih, trip_enc hB, Function.iterate_succ_apply']

theorem enc_congr {p q : Fin 1024 → Prop} (h : ∀ j, p j ↔ q j) : enc p = enc q := by
  rw [show p = q from funext fun j => propext (h j)]

include hB in
/-- After 1023 trips the vector is that of the kept rows, -/
theorem trips_settled (a : Fin 1024 → Prop) {t : ℕ} (ht : 1023 ≤ t) : trips (enc a) B t = enc (nms S a) := by
  rw [trips_enc hB]
  exact enc_congr fun j => rounds_eq S a t j (by have := j.isLt; omega)

include hB in
/-- and the loop settles there. -/
theorem settles (a : Fin 1024 → Prop) : Settles (enc a) B 1023 := by
  intro t ht
  have hA := again_iff (enc a) (trips (enc a) B t) B
  rw [← trips_succ] at hA
  rw [ne_eq, hA]
  constructor
  · intro h
    by_contra hn
    have e : t = 1023 := by omega
    subst e
    exact h (by rw [trips_settled hB a le_rfl, trips_settled hB a (by norm_num)])
  · intro h
    have h' : trips (enc a) B (t + 1) = trips (enc a) B t := not_not.1 h
    rw [h', trips_settled hB a le_rfl, trips_enc hB]
    refine enc_congr (round_fixed S a _ fun j => ?_)
    rw [trips_enc hB, trips_enc hB, Function.iterate_succ_apply'] at h'
    exact enc_inj h' j

end Cert.Proof.K
-- ==== Proof.Reg0.lean ====
/-
  The pre call's region: what its windows may hold at each point, its body obligation, and its record in @main.
-/
module

public import proofs.«01_k».proof.Proof.Rounds
public import Idealize.ShloMosaic.Lib.Pipeline.RegionArrays
public import Idealize.ShloMosaic.Lib.Pipeline.RegionsOwned

@[expose] public section

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (RDat)

local notation "𝕀" => MT nD τ sig Unit (Elt Ideal) ℕ (UR sig nD τ) ℕ

variable (m : (ℓ : Loc nD τ sig) → Buf (Elt Ideal) ℓ)

/-- The contents an array of the pre call is entered with. -/
def arr0 (c : Dev nD) (w : Fin (cfg0 (F := Ideal)).W) :
    Buf (Elt Ideal) (((cfg0 (F := Ideal)).win w).arr.view.loc (c.tc : Thread nD τ)) :=
  V1 m c (Proc.devRef .tc (Pipeline.arrRef spec0 w))

/-- What a window's staging buffer holds after its fetch at a point, if it held `d`. -/
def got0 (c : Dev nD) (w : Fin (cfg0 (F := Ideal)).W) (t : Fin (cfg0 (F := Ideal)).N)
    (d : ((cfg0 (F := Ideal)).win w).block.Idx → Elt Ideal ((cfg0 (F := Ideal)).win w).elt) :
    ((cfg0 (F := Ideal)).win w).block.Idx → Elt Ideal ((cfg0 (F := Ideal)).win w).elt :=
  ((cfg0 (F := Ideal)).win w).fill ((cfg0 (F := Ideal)).grid.coords t) d
    ((((cfg0 (F := Ideal)).win w).blk t).view.read (Elt Ideal) (arr0 m c w))

/-- What the body may leave at a point: its inputs as it found them, its outputs the row maxima, the class indices and
the boxes of what the fetches landed, whatever the buffers' rows past the arrays' end held before. -/
def after0 (c : Dev nD) : (w : Fin (cfg0 (F := Ideal)).W) → Fin (cfg0 (F := Ideal)).N →
    (((cfg0 (F := Ideal)).win w).block.Idx → Elt Ideal ((cfg0 (F := Ideal)).win w).elt) →
    (((cfg0 (F := Ideal)).win w).block.Idx → Elt Ideal ((cfg0 (F := Ideal)).win w).elt) → Prop
  | 0 => fun _ Y X => X = Y
  | 1 => fun _ Y X => X = Y
  | 2 => fun _ Y X => X = Y
  | 3 => fun t _ X => ∃ d, X = k0_pay2 (F := Ideal) (got0 m c 0 t d)
  | 4 => fun t _ X => ∃ d, X = k0_pay3 (F := Ideal) (got0 m c 0 t d)
  | 5 => fun t _ X => ∃ d d', X = k0_pay4 (F := Ideal) (got0 m c 1 t d) (got0 m c 2 t d')
  | ⟨_ + 6, h⟩ => absurd h (Nat.not_lt.2 (Nat.le_add_left _ _))

/-- The pre call's proof data. -/
def rdat0 (c : Dev nD) : RDat τ (Elt Ideal) Unit ℕ (UR sig nD τ) ℕ (cfg0 (F := Ideal)) c where
  A := arr0 m c
  after := after0 m c
  Φ := fun _ => Pipeline.scopedRest spec0 c
  q := fun _ => fullShare
  owed := fun _ => 0

theorem body_obligation0 (c : Dev nD) : (rdat0 m c).BodyObligation (defs₀ (F := Ideal)) 𝒱₀ () Set.univ := by
  intro t Y hY
  obtain ⟨d0, h0⟩ := ((rdat0 m c).finds_of_fetch (fetch0_0 t) _).1 (hY 0)
  obtain ⟨d1, h1⟩ := ((rdat0 m c).finds_of_fetch (fetch0_1 t) _).1 (hY 1)
  obtain ⟨d2, h2⟩ := ((rdat0 m c).finds_of_fetch (fetch0_2 t) _).1 (hY 2)
  rw [bigSep_W0, bigSep_W0]
  have key := body0 (F := Ideal) 𝒱₀ c none Set.univ (st0_0 t) (st0_1 t) (st0_2 t) (st0_3 t) (st0_4 t) (st0_5 t) (grid0.coords t)
    (stage_whole0 0 _) (stage_whole0 1 _) (stage_whole0 2 _) (stage_whole0 3 _) (stage_whole0 4 _) (stage_whole0 5 _)
    (Y 0) (Y 1) (Y 2) (Y 3) (Y 4) (Y 5)
  unfold held0 at key
  iintro ⟨HΦ, HO, H⟩
  iapply (key _) $$ H
  iintro ⟨H0, H1, H2, H3, H4, H5⟩
  isplitl [HΦ]
  · iapply (show (rdat0 m c).Φ t.castSucc ⊢ (rdat0 m c).Φ t.succ from .rfl) $$ HΦ
  isplitl [HO]
  · iapply (show (rdat0 m c).owesAt () t.castSucc ⊢ (rdat0 m c).owesAt () t.succ from .rfl) $$ HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; exact ⟨d0, congrArg (k0_pay2 (F := Ideal)) h0⟩
  isplitl [H4]
  · iexists _; isplitr; swap; · iexact H4
    ipureintro; exact ⟨d0, congrArg (k0_pay3 (F := Ideal)) h0⟩
  · iexists _; isplitr; swap; · iexact H5
    ipureintro; exact ⟨d1, d2, congrArg₂ (k0_pay4 (F := Ideal)) h1 h2⟩

end Cert.Proof.K
-- ==== Proof.Rows.lean ====
/-
  The pre call's three results, row by row.
-/
module

public import proofs.«01_k».proof.Proof.Reg0

@[expose] public section

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (RDat)

/-- The greatest entry of a row of class scores, -/
def rowMax (f : Fin 21 → EReal) : EReal := Finset.fold max (Ideal.ofBits FTy.f32 4286578688#32) f Finset.univ

/-- and the least class that attains it. -/
def rowArg (f : Fin 21 → EReal) : BitVec 32 := by
  classical exact Finset.fold IntOp.minsi (2147483647#32) (fun x => if f x = rowMax f then BitVec.ofNat 32 x else 1073741824#32) Finset.univ

/-- A box's half width (`k = 0`) or height (`k = 1`), from its offsets and its anchor. -/
def half (l d : Fin 4 → EReal) (k : Fin 2) : EReal :=
  Ideal.div (Ideal.exp (l ⟨2 + k, by omega⟩ * Ideal.ofBits FTy.f32 1045220557#32) * d ⟨2 + k, by omega⟩) (Ideal.ofBits FTy.f32 1073741824#32)

/-- A box's centre. -/
def centre (l d : Fin 4 → EReal) (k : Fin 2) : EReal :=
  l ⟨k, by omega⟩ * Ideal.ofBits FTy.f32 1036831949#32 * d ⟨2 + k, by omega⟩ + d ⟨k, by omega⟩

/-- The box that a row of offsets `l` and its anchor `d` describe: two corners, clipped to the unit square. -/
def boxOf (l d : Fin 4 → EReal) (k : Fin 4) : EReal :=
  min 1 (max 0 (if h : k.val < 2 then centre l d ⟨k, h⟩ - half l d ⟨k, h⟩
    else centre l d ⟨k.val - 2, by omega⟩ + half l d ⟨k.val - 2, by omega⟩))

theorem pay2_row (X : FVec Ideal S1024x21 .f32) (a : Fin 1024) :
    k0_pay2 (F := Ideal) X (ix2 a (0 : Fin 1)) = rowMax fun k => X (ix2 a k) := by
  unfold k0_pay2 k0_pay1 rowMax
  pointwise

theorem pay3_row (X : FVec Ideal S1024x21 .f32) (a : Fin 1024) :
    k0_pay3 (F := Ideal) X (ix2 a (0 : Fin 1)) = rowArg fun k => X (ix2 a k) := by
  unfold k0_pay3
  pointwise
  rw [pay2_row]
  unfold k0_pay1 rowArg
  pointwise

theorem pay4_row (X Y : FVec Ideal S1024x4 .f32) (a : Fin 1024) (k : Fin 4) :
    k0_pay4 (F := Ideal) X Y (ix2 a k) = boxOf (fun k => X (ix2 a k)) (fun k => Y (ix2 a k)) k := by
  unfold k0_pay4
  pointwise
  rfl

variable (m : (ℓ : Loc nD τ sig) → Buf (Elt Ideal) ℓ)

theorem xsize0_0 : ∀ t : Fin grid0.N, win0_0.xsize (grid0.coords t) 0 = min 1024 (33734 - t.val * 1024) ∧ win0_0.xsize (grid0.coords t) 1 = 21 := by
  decide +kernel

theorem xsize0_1 : ∀ t : Fin grid0.N, win0_1.xsize (grid0.coords t) 0 = min 1024 (33734 - t.val * 1024) ∧ win0_1.xsize (grid0.coords t) 1 = 4 := by
  decide +kernel

theorem xsize0_2 : ∀ t : Fin grid0.N, win0_2.xsize (grid0.coords t) 0 = 1024 ∧ win0_2.xsize (grid0.coords t) 1 = 4 := by
  decide +kernel

theorem index0_0 : ∀ t : Fin grid0.N, win0_0.index t 0 = t.val ∧ win0_0.index t 1 = 0 := by decide +kernel
theorem index0_1 : ∀ t : Fin grid0.N, win0_1.index t 0 = t.val ∧ win0_1.index t 1 = 0 := by decide +kernel
theorem index0_2 : ∀ t : Fin grid0.N, win0_2.index t 0 = t.val ∧ win0_2.index t 1 = 0 := by decide +kernel
theorem index0_3 : ∀ t : Fin grid0.N, win0_3.index t 0 = t.val ∧ win0_3.index t 1 = 0 := by decide +kernel
theorem index0_4 : ∀ t : Fin grid0.N, win0_4.index t 0 = t.val ∧ win0_4.index t 1 = 0 := by decide +kernel
theorem index0_5 : ∀ t : Fin grid0.N, win0_5.index t 0 = t.val ∧ win0_5.index t 1 = 0 := by decide +kernel

theorem got0_row (c : Dev nD) (t : Fin (cfg0 (F := Ideal)).N) (d) (a : Fin 1024) (k : Fin 21) (h : t.val * 1024 + a.val < 33734) :
    got0 m c 0 t d (ix2 a k) = V1 m c (Proc.devRef .tc main_v5) (ix2 (⟨t.val * 1024 + a.val, h⟩ : Fin 33734) k) := by
  unfold got0 Pipeline.Window.fill
  rw [dif_pos]
  · refine congrArg (V1 m c (Proc.devRef .tc main_v5)) (funext fun b => Fin.ext ?_)
    fin_cases b
    · blk_simp [(index0_0 t).1]; rfl
    · blk_simp [(index0_0 t).2]; rfl
  · rw [Pipeline.Window.moved_iff]
    intro b
    fin_cases b
    · exact (show a.val < min 1024 (33734 - t.val * 1024) by have := a.isLt; omega).trans_eq (xsize0_0 t).1.symm
    · exact k.isLt.trans_eq (xsize0_0 t).2.symm

theorem got0_row1 (c : Dev nD) (t : Fin (cfg0 (F := Ideal)).N) (d) (a : Fin 1024) (k : Fin 4) (h : t.val * 1024 + a.val < 33734) :
    got0 m c 1 t d (ix2 a k) = V1 m c (Proc.devRef .tc main_arg0) (ix2 (⟨t.val * 1024 + a.val, h⟩ : Fin 33734) k) := by
  unfold got0 Pipeline.Window.fill
  rw [dif_pos]
  · refine congrArg (V1 m c (Proc.devRef .tc main_arg0)) (funext fun b => Fin.ext ?_)
    fin_cases b
    · blk_simp [(index0_1 t).1]; rfl
    · blk_simp [(index0_1 t).2]; rfl
  · rw [Pipeline.Window.moved_iff]
    intro b
    fin_cases b
    · exact (show a.val < min 1024 (33734 - t.val * 1024) by have := a.isLt; omega).trans_eq (xsize0_1 t).1.symm
    · exact k.isLt.trans_eq (xsize0_1 t).2.symm

theorem got0_row2 (c : Dev nD) (t : Fin (cfg0 (F := Ideal)).N) (d) (a : Fin 1024) (k : Fin 4) (h : t.val * 1024 + a.val < 33792) :
    got0 m c 2 t d (ix2 a k) = V1 m c (Proc.devRef .tc main_cst) (ix2 (⟨t.val * 1024 + a.val, h⟩ : Fin 33792) k) := by
  unfold got0 Pipeline.Window.fill
  rw [dif_pos]
  · refine congrArg (V1 m c (Proc.devRef .tc main_cst)) (funext fun b => Fin.ext ?_)
    fin_cases b
    · blk_simp [(index0_2 t).1]; rfl
    · blk_simp [(index0_2 t).2]; rfl
  · rw [Pipeline.Window.moved_iff]
    intro b
    fin_cases b
    · exact a.isLt.trans_eq (xsize0_2 t).1.symm
    · exact k.isLt.trans_eq (xsize0_2 t).2.symm

/-- The point that writes a row, -/
def pointOf (r : Fin 33792) : Fin (cfg0 (F := Ideal)).N :=
  ⟨r.val / 1024, by have := r.isLt; rw [show (cfg0 (F := Ideal)).N = 33 from N_0]; omega⟩

/-- and the row's place in the block. -/
def placeOf (r : Fin 33792) : Fin 1024 := ⟨r.val % 1024, Nat.mod_lt _ (by decide)⟩

theorem pointOf_placeOf (r : Fin 33792) : (pointOf r).val * 1024 + (placeOf r).val = r.val := by
  show r.val / 1024 * 1024 + r.val % 1024 = r.val
  omega

theorem left_congr {n : ℕ} {α : Type} (X : Fin (cfg0 (F := Ideal)).N → (⟨2, ![1024, n]⟩ : Shape).Idx → α) (t : Fin (cfg0 (F := Ideal)).N)
    (y : (⟨2, ![1024, n]⟩ : Shape).Idx) (i : Fin 33792) (j : Fin n) (hi : i.val = t.val * 1024 + (y 0).val) (hj : j.val = (y 1).val) :
    X t y = X (pointOf i) (ix2 (placeOf i) j) := by
  have hy : (y 0).val < 1024 := (y 0).isLt
  have ht : t = pointOf i := Fin.ext (show t.val = i.val / 1024 by omega)
  rw [← ht]
  refine congrArg (X t) (funext fun a => Fin.ext ?_)
  fin_cases a
  · exact (show (y 0).val = i.val % 1024 by omega)
  · exact hj.symm

/-- Each row of the maxima's array is a row of what the body may have left at the row's point. -/
theorem row_left3 (c : Dev nD) {G} (hG : (rdat0 m c).ArrAt 3 (cfg0 (F := Ideal)).N G) (r : Fin 33792) :
    ∃ X, (rdat0 m c).Leaves 3 (pointOf r) X ∧ (G : S33792x1.Idx → EReal) (ix2 r (0 : Fin 1)) = X (ix2 (placeOf r) (0 : Fin 1)) := by
  obtain ⟨X, hX, hA⟩ := hG.exists_exact
  have e := hA (Function.update (fun _ _ _ => Classical.arbitrary _) 3 X) fun u _ _ => by rw [Function.update_self]
  have e' := e.trans (((rdat0 m c).withAfter (Function.update (fun _ _ _ => Classical.arbitrary _) 3 X)).arrAt_eq_of_covers 3
    (fun i : S33792x1.Idx => X (pointOf (i 0)) (ix2 (placeOf (i 0)) (i 1)))
    (by decide +kernel) fun t hf y => by
      blk_simp
      rw [RDat.withAfter_after, Function.update_self]
      exact left_congr X t y _ _ (by blk_simp [(index0_3 t).1]) (by blk_simp [(index0_3 t).2]))
  exact ⟨X (pointOf r), hX _ (pointOf r).isLt (flush0_3 _), congrFun e' (ix2 r (0 : Fin 1))⟩

/-- Each row of the classes' array is a row of what the body may have left at the row's point. -/
theorem row_left4 (c : Dev nD) {G} (hG : (rdat0 m c).ArrAt 4 (cfg0 (F := Ideal)).N G) (r : Fin 33792) :
    ∃ X, (rdat0 m c).Leaves 4 (pointOf r) X ∧ (G : S33792x1.Idx → BitVec 32) (ix2 r (0 : Fin 1)) = X (ix2 (placeOf r) (0 : Fin 1)) := by
  obtain ⟨X, hX, hA⟩ := hG.exists_exact
  have e := hA (Function.update (fun _ _ _ => Classical.arbitrary _) 4 X) fun u _ _ => by rw [Function.update_self]
  have e' := e.trans (((rdat0 m c).withAfter (Function.update (fun _ _ _ => Classical.arbitrary _) 4 X)).arrAt_eq_of_covers 4
    (fun i : S33792x1.Idx => X (pointOf (i 0)) (ix2 (placeOf (i 0)) (i 1)))
    (by decide +kernel) fun t hf y => by
      blk_simp
      rw [RDat.withAfter_after, Function.update_self]
      exact left_congr X t y _ _ (by blk_simp [(index0_4 t).1]) (by blk_simp [(index0_4 t).2]))
  exact ⟨X (pointOf r), hX _ (pointOf r).isLt (flush0_4 _), congrFun e' (ix2 r (0 : Fin 1))⟩

/-- Each row of the boxes' array is a row of what the body may have left at the row's point. -/
theorem row_left5 (c : Dev nD) {G} (hG : (rdat0 m c).ArrAt 5 (cfg0 (F := Ideal)).N G) (r : Fin 33792) (k : Fin 4) :
    ∃ X, (rdat0 m c).Leaves 5 (pointOf r) X ∧ (G : S33792x4.Idx → EReal) (ix2 r k) = X (ix2 (placeOf r) k) := by
  obtain ⟨X, hX, hA⟩ := hG.exists_exact
  have e := hA (Function.update (fun _ _ _ => Classical.arbitrary _) 5 X) fun u _ _ => by rw [Function.update_self]
  have e' := e.trans (((rdat0 m c).withAfter (Function.update (fun _ _ _ => Classical.arbitrary _) 5 X)).arrAt_eq_of_covers 5
    (fun i : S33792x4.Idx => X (pointOf (i 0)) (ix2 (placeOf (i 0)) (i 1)))
    (by decide +kernel) fun t hf y => by
      blk_simp
      rw [RDat.withAfter_after, Function.update_self]
      exact left_congr X t y _ _ (by blk_simp [(index0_5 t).1]) (by blk_simp [(index0_5 t).2]))
  exact ⟨X (pointOf r), hX _ (pointOf r).isLt (flush0_5 _), congrFun e' (ix2 r k)⟩

/-- The maxima at a row inside the operands, -/
theorem array_max (c : Dev nD) {G} (hG : (rdat0 m c).ArrAt 3 (cfg0 (F := Ideal)).N G) (r : Fin 33792) (h : r.val < 33734) :
    (G : S33792x1.Idx → EReal) (ix2 r (0 : Fin 1)) = rowMax fun k => V1 m c (Proc.devRef .tc main_v5) (ix2 (⟨r.val, h⟩ : Fin 33734) k) := by
  obtain ⟨X, ⟨-, -, d, rfl⟩, e⟩ := row_left3 m c hG r
  have hr := pointOf_placeOf r
  rw [e, pay2_row]
  congr 1; funext k
  rw [got0_row m c _ d _ k (by omega)]
  simp only [hr]

/-- the classes, -/
theorem array_arg (c : Dev nD) {G} (hG : (rdat0 m c).ArrAt 4 (cfg0 (F := Ideal)).N G) (r : Fin 33792) (h : r.val < 33734) :
    (G : S33792x1.Idx → BitVec 32) (ix2 r (0 : Fin 1)) = rowArg fun k => V1 m c (Proc.devRef .tc main_v5) (ix2 (⟨r.val, h⟩ : Fin 33734) k) := by
  obtain ⟨X, ⟨-, -, d, rfl⟩, e⟩ := row_left4 m c hG r
  have hr := pointOf_placeOf r
  rw [e, pay3_row]
  congr 1; funext k
  rw [got0_row m c _ d _ k (by omega)]
  simp only [hr]

/-- and the boxes. -/
theorem array_box (c : Dev nD) {G} (hG : (rdat0 m c).ArrAt 5 (cfg0 (F := Ideal)).N G) (r : Fin 33792) (h : r.val < 33734) (k : Fin 4) :
    (G : S33792x4.Idx → EReal) (ix2 r k)
      = boxOf (fun k => V1 m c (Proc.devRef .tc main_arg0) (ix2 (⟨r.val, h⟩ : Fin 33734) k)) (fun k => V1 m c (Proc.devRef .tc main_cst) (ix2 r k)) k := by
  obtain ⟨X, ⟨-, -, d, d', rfl⟩, e⟩ := row_left5 m c hG r k
  have hr := pointOf_placeOf r
  rw [e, pay4_row]
  congr 1 <;> funext k
  · rw [got0_row1 m c _ d _ k (by omega)]
    simp only [hr]
  · rw [got0_row2 m c _ d' _ k (by omega)]
    simp only [hr]

end Cert.Proof.K
-- ==== Proof.Mask.lean ====
/-
  The suppression call's mask, pointwise: 1 where the later box overlaps the earlier one by more than a half, else 0.
-/
module

public import proofs.«01_k».proof.Proof.Rounds

@[expose] public section

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The area that two boxes share, a box being its two corners. -/
def inter (a b : Fin 4 → EReal) : EReal :=
  max (min (a 2) (b 2) - max (a 0) (b 0)) 0 * max (min (a 3) (b 3) - max (a 1) (b 1)) 0

/-- A box's area. -/
def area (a : Fin 4 → EReal) : EReal := (a 2 - a 0) * (a 3 - a 1)

/-- Two boxes overlap: the shared area over the area of the union, a small constant added to it, exceeds a half. -/
def Over (a b : Fin 4 → EReal) : Prop :=
  Ideal.ofBits FTy.f32 1056964608#32 < Ideal.div (inter a b) (area a + area b - inter a b + Ideal.ofBits FTy.f32 730643660#32)

instance (a b : Fin 4 → EReal) : Decidable (Over a b) := inferInstanceAs (Decidable (_ < _))

theorem boxCol_apply (X : FVec Ideal S1024x4 .f32) (k : Fin 4) (h) (i : Fin 1024) :
    boxCol (F := Ideal) X k.val h (ix2 i (0 : Fin 1)) = X (ix2 i k) := by
  unfold boxCol
  refine congrArg X (funext fun a => Fin.ext ?_)
  fin_cases a <;> simp [Rect.toLoadRect, Rect.unit, LoadRect.idx]

theorem boxRow_apply (X : FVec Ideal S4x1024 .f32) (k : Fin 4) (h) (j : Fin 1024) :
    boxRow (F := Ideal) X k.val h (ix2 (0 : Fin 1) j) = X (ix2 k j) := by
  unfold boxRow
  refine congrArg X (funext fun a => Fin.ext ?_)
  fin_cases a <;> simp [Rect.toLoadRect, Rect.unit, LoadRect.idx]

theorem sgt_of_lt {i j : ℕ} (hi : i < 1024) (hj : j < 1024) :
    IntOp.cmpi .sgt (BitVec.ofNat 32 j) (BitVec.ofNat 32 i) = BitVec.ofBool (decide (i < j)) := by
  have e : (BitVec.ofNat 32 i).slt (BitVec.ofNat 32 j) = decide (i < j) := by
    rw [BitVec.slt_eq_decide, BitVec.toInt_eq_toNat_of_lt (by simp; omega), BitVec.toInt_eq_toNat_of_lt (by simp; omega)]
    simp [Nat.mod_eq_of_lt (show i < 4294967296 by omega), Nat.mod_eq_of_lt (show j < 4294967296 by omega)]
  exact congrArg BitVec.ofBool e

/-- The mask of the boxes `b`, given as rows and, transposed, as columns. -/
theorem isMask_maskOf (X0 : FVec Ideal S1024x4 .f32) (X1 : FVec Ideal S4x1024 .f32) (b : Fin 1024 → Fin 4 → EReal)
    (h0 : ∀ i k, X0 (ix2 i k) = b i k) (h1 : ∀ k j, X1 (ix2 k j) = b j k) :
    IsMask (maskOf (F := Ideal) X0 X1) (fun i j => Over (b i) (b j)) := by
  intro i j
  unfold maskOf k1_pay1 k1_pay13 k1_pay14 k1_pay15 k1_pay5 k1_pay6 k1_pay7 k1_pay8 k1_pay9 k1_pay10 k1_pay11 k1_pay12
  pointwise
  have c0 := boxCol_apply X0 0 inb_S1024x4_S1024x1_0_0 i
  have c1 := boxCol_apply X0 1 inb_S1024x4_S1024x1_0_1 i
  have c2 := boxCol_apply X0 2 inb_S1024x4_S1024x1_0_2 i
  have c3 := boxCol_apply X0 3 inb_S1024x4_S1024x1_0_3 i
  have r0 := boxRow_apply X1 0 inb_S4x1024_S1x1024_0_0 j
  have r1 := boxRow_apply X1 1 inb_S4x1024_S1x1024_1_0 j
  have r2 := boxRow_apply X1 2 inb_S4x1024_S1x1024_2_0 j
  have r3 := boxRow_apply X1 3 inb_S4x1024_S1x1024_3_0 j
  simp only [h0, h1, Fin.val_zero, Fin.val_one, Fin.val_two, show ((3 : Fin 4) : ℕ) = 3 from rfl] at c0 c1 c2 c3 r0 r1 r2 r3
  simp only [c0, c1, c2, c3, r0, r1, r2, r3]
  rw [sgt_of_lt i.isLt j.isLt]
  change Scalar.select (IntOp.andi (BitVec.ofBool (decide (Over (b i) (b j)))) (BitVec.ofBool (decide ((i : ℕ) < (j : ℕ))))) (1 : EReal) 0 = _
  by_cases hij : (i : ℕ) < (j : ℕ)
  · by_cases ho : Over (b i) (b j)
    · rw [if_pos ⟨hij, ho⟩]; simp [hij, ho, Scalar.select, IntOp.andi]
    · rw [if_neg fun h => ho h.2]; simp [hij, ho, Scalar.select, IntOp.andi]
  · rw [if_neg fun h => hij h.1]; simp [hij, Scalar.select, IntOp.andi]

end Cert.Proof.K
-- ==== Proof.Reg1.lean ====
/-
  The second region (the suppression call): what its one point leaves, and its body obligation.
-/
module

public import proofs.«01_k».proof.Proof.Reg0

@[expose] public section

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (RDat)

local notation "𝕀" => MT nD τ sig Unit (Elt Ideal) ℕ (UR sig nD τ) ℕ

variable (m : (ℓ : Loc nD τ sig) → Buf (Elt Ideal) ℓ) (o : Outs (F := Ideal))

/-- The contents an array of the suppression call is entered with. -/
def arr1 (c : Dev nD) (w : Fin (cfg1 (F := Ideal)).W) :
    Buf (Elt Ideal) (((cfg1 (F := Ideal)).win w).arr.view.loc (c.tc : Thread nD τ)) :=
  V10 m o c (Proc.devRef .tc (Pipeline.arrRef spec1 w))

/-- The kept row the suppression call leaves: its trips over the candidates from the mask of its two box arrays. -/
def kept1 (X0 : FVec Ideal S1024x4 .f32) (X1 : FVec Ideal S4x1024 .f32) (X2 : FVec Ideal S1x1024 .f32) : FVec Ideal S1x1024 .f32 :=
  trips (k1_pay2 (F := Ideal) X2) (maskOf (F := Ideal) X0 X1) 1023

/-- What the body may leave: its inputs as it found them and its output the kept row. -/
def after1 (c : Dev nD) : (w : Fin (cfg1 (F := Ideal)).W) → Fin (cfg1 (F := Ideal)).N →
    (((cfg1 (F := Ideal)).win w).block.Idx → Elt Ideal ((cfg1 (F := Ideal)).win w).elt) →
    (((cfg1 (F := Ideal)).win w).block.Idx → Elt Ideal ((cfg1 (F := Ideal)).win w).elt) → Prop
  | 0 => fun _ Y X => X = Y
  | 1 => fun _ Y X => X = Y
  | 2 => fun _ Y X => X = Y
  | 3 => fun _ _ X => X = kept1 (arr1 m o c 0) (arr1 m o c 1) (arr1 m o c 2)
  | ⟨_ + 4, h⟩ => absurd h (Nat.not_lt.2 (Nat.le_add_left _ _))

/-- The suppression call's proof data. -/
def rdat1 (c : Dev nD) : RDat τ (Elt Ideal) Unit ℕ (UR sig nD τ) ℕ (cfg1 (F := Ideal)) c where
  A := arr1 m o c
  after := after1 m o c
  Φ := fun _ => Pipeline.scopedRest spec1 c
  q := fun _ => fullShare
  owed := fun _ => 0

theorem fetched1_0 (c : Dev nD) (t : Fin (cfg1 (F := Ideal)).N) (d) : (rdat1 m o c).fetched 0 t d = arr1 m o c 0 := by
  obtain rfl := fin_N1 t
  exact funext fun j => congrArg (arr1 m o c 0) (funext fun k => Fin.ext (by fin_cases k <;> simp <;> rfl))

theorem fetched1_1 (c : Dev nD) (t : Fin (cfg1 (F := Ideal)).N) (d) : (rdat1 m o c).fetched 1 t d = arr1 m o c 1 := by
  obtain rfl := fin_N1 t
  exact funext fun j => congrArg (arr1 m o c 1) (funext fun k => Fin.ext (by fin_cases k <;> simp <;> rfl))

theorem fetched1_2 (c : Dev nD) (t : Fin (cfg1 (F := Ideal)).N) (d) : (rdat1 m o c).fetched 2 t d = arr1 m o c 2 := by
  obtain rfl := fin_N1 t
  exact funext fun j => congrArg (arr1 m o c 2) (funext fun k => Fin.ext (by fin_cases k <;> simp <;> rfl))

/-- The body at its one point, the trips of its loop over by the hypothesis that they settle. -/
theorem body_obligation1 (hs : ∀ c, Settles (k1_pay2 (F := Ideal) (arr1 m o c 2)) (maskOf (F := Ideal) (arr1 m o c 0) (arr1 m o c 1)) 1023)
    (c : Dev nD) : (rdat1 m o c).BodyObligation (defs₀ (F := Ideal)) 𝒱₀ () Set.univ := by
  intro t Y hY
  obtain ⟨d0, h0⟩ := ((rdat1 m o c).finds_of_fetch (fetch1_0 t) _).1 (hY 0)
  obtain ⟨d1, h1⟩ := ((rdat1 m o c).finds_of_fetch (fetch1_1 t) _).1 (hY 1)
  obtain ⟨d2, h2⟩ := ((rdat1 m o c).finds_of_fetch (fetch1_2 t) _).1 (hY 2)
  rw [fetched1_0] at h0
  rw [fetched1_1] at h1
  rw [fetched1_2] at h2
  obtain rfl := fin_N1 t
  rw [bigSep_W1, bigSep_W1]
  show iprop(Pipeline.scopedRest spec1 c ∗ _ ∗ _) ⊢ wp _ _ _ _ (fun _ => iprop(Pipeline.scopedRest spec1 c ∗ _ ∗ _))
  rw [scopedRest1_eq c]
  have key := fun Y4 => body1 (F := Ideal) c Set.univ (st1_0 (F := Ideal) t1_0) (st1_1 (F := Ideal) t1_0) (st1_2 (F := Ideal) t1_0) (st1_3 (F := Ideal) t1_0) (Memref.whole cc1_scratch0)
    (stage_whole1 0 _) (stage_whole1 1 _) (stage_whole1 2 _) (stage_whole1 3 _) (Memref.isWhole_whole _)
    (Y 0) (Y 1) (Y 2) (Y 3) Y4 1023 (by rw [h0, h1, h2]; exact hs c)
  unfold held1 at key
  iintro ⟨⟨S0, S1, S2, S3, S4, S5, S6, S7, S8, S9, S10, S11, ⟨%f, HS⟩⟩, HO, ⟨H0, H1, H2, H3⟩⟩
  iapply (key f _) $$ [H0 H1 H2 H3 HS]
  · isplitl [H0]; · iexact H0
    isplitl [H1]; · iexact H1
    isplitl [H2]; · iexact H2
    isplitl [H3]; · iexact H3
    rw [owns_whole]; iexact HS
  iintro ⟨H0, H1, H2, H3, HS⟩
  isplitl [S0 S1 S2 S3 S4 S5 S6 S7 S8 S9 S10 S11 HS]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexists _; iapply (Entails.of_eq (owns_whole (c : Thread nD τ) cc1_scratch0 fullShare _)) $$ HS
  isplitl [HO]
  · iapply (show (rdat1 m o c).owesAt () t1_0.castSucc ⊢ (rdat1 m o c).owesAt () t1_0.succ from .rfl) $$ HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  · iexists _; isplitr; swap; · iexact H3
    ipureintro; show _ = kept1 _ _ _; rw [h0, h1, h2]; rfl

end Cert.Proof.K
-- ==== Proof.Outs.lean ====
/-
  What the two calls leave in memory: the rows of the pre call up to the array's end, and the kept row of the suppression call.
-/
module

public import proofs.«01_k».proof.Proof.Off
public import proofs.«01_k».proof.Proof.Rows
public import proofs.«01_k».proof.Proof.Mask
public import proofs.«01_k».proof.Proof.Reg1

@[expose] public section

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

local notation "𝕀" => MT nD τ sig Unit (Elt Ideal) ℕ (UR sig nD τ) ℕ
open Idealize.ShloMosaic.Pipeline (RDat)

variable (m : (ℓ : Loc nD τ sig) → Buf (Elt Ideal) ℓ)

/-- The contents `o` that the calls leave are those the program leaves, wherever a later operation reads them. -/
structure Leaves (o : Outs (F := Ideal)) : Prop where
  max : ∀ c (r : Fin 33792) (h : r.val < 33734), (o 2 main_v6_0 c : S33792x1.Idx → EReal) (ix2 r (0 : Fin 1))
    = rowMax fun k => V1 m c (Proc.devRef .tc main_v5) (ix2 (⟨r.val, h⟩ : Fin 33734) k)
  arg : ∀ c (r : Fin 33792) (h : r.val < 33734), (o 2 main_v6_1 c : S33792x1.Idx → BitVec 32) (ix2 r (0 : Fin 1))
    = rowArg fun k => V1 m c (Proc.devRef .tc main_v5) (ix2 (⟨r.val, h⟩ : Fin 33734) k)
  box : ∀ c (r : Fin 33792) (h : r.val < 33734) (k : Fin 4), (o 2 main_v6_2 c : S33792x4.Idx → EReal) (ix2 r k)
    = boxOf (fun k => V1 m c (Proc.devRef .tc main_arg0) (ix2 (⟨r.val, h⟩ : Fin 33734) k)) (fun k => V1 m c (Proc.devRef .tc main_cst) (ix2 r k)) k
  keep : ∀ c, o 11 main_v18 c = kept1 (arr1 m o c 0) (arr1 m o c 1) (arr1 m o c 2)

/-- A row of the pre call's array, anything past the end. -/
def upTo {α : Type} [Zero α] {n : ℕ} (f : Fin 33734 → Fin n → α) : (Shape.mk 2 ![33792, n]).Idx → α :=
  fun i => if h : (i 0).val < 33734 then f ⟨(i 0).val, h⟩ (i 1) else 0

theorem upTo_apply {α : Type} [Zero α] {n : ℕ} (f : Fin 33734 → Fin n → α) (r : Fin 33792) (k : Fin n) (h : r.val < 33734) :
    upTo f (ix2 r k) = f ⟨r.val, h⟩ k := by
  unfold upTo
  exact dif_pos h

/-- Core `c`'s memory with the pre call's three results at the given contents. -/
def set3 (c : Dev nD) (x : S33792x1.Idx → EReal) (y : S33792x1.Idx → BitVec 32) (z : S33792x4.Idx → EReal) : Valuation τ sig (Elt Ideal) :=
  Function.update (Function.update (Function.update (V1 m c) main_v6_0 x) main_v6_1 y) main_v6_2 z

section

variable (c : Dev nD) (x : S33792x1.Idx → EReal) (y : S33792x1.Idx → BitVec 32) (z : S33792x4.Idx → EReal)

theorem set3_0 : (set3 m c x y z (Proc.devRef .tc main_v6_0) : S33792x1.Idx → EReal) = x := by
  unfold set3
  rw [Function.update_of_ne (StableHlo.devRef_ne_of_ne (by decide)), Function.update_of_ne (StableHlo.devRef_ne_of_ne (by decide)), Function.update_self]

theorem set3_1 : (set3 m c x y z (Proc.devRef .tc main_v6_1) : S33792x1.Idx → BitVec 32) = y := by
  unfold set3
  rw [Function.update_of_ne (StableHlo.devRef_ne_of_ne (by decide)), Function.update_self]

theorem set3_2 : (set3 m c x y z (Proc.devRef .tc main_v6_2) : S33792x4.Idx → EReal) = z := by
  unfold set3
  rw [Function.update_self]

theorem set3_of (d : DevRef τ sig) (h0 : d ≠ main_v6_0) (h1 : d ≠ main_v6_1) (h2 : d ≠ main_v6_2) : set3 m c x y z d = V1 m c d := by
  unfold set3
  rw [Function.update_of_ne h2, Function.update_of_ne h1, Function.update_of_ne h0]

end

/-- The pre call's three results, zero past the array's end. -/
def rowsMax (c : Dev nD) : S33792x1.Idx → EReal :=
  upTo (n := 1) fun r _ => rowMax fun k => V1 m c (Proc.devRef .tc main_v5) (ix2 r k)

def rowsArg (c : Dev nD) : S33792x1.Idx → BitVec 32 :=
  upTo (n := 1) fun r _ => rowArg fun k => V1 m c (Proc.devRef .tc main_v5) (ix2 r k)

def rowsBox (c : Dev nD) : S33792x4.Idx → EReal :=
  upTo (n := 4) fun r k => boxOf (fun k => V1 m c (Proc.devRef .tc main_arg0) (ix2 r k))
    (fun k => V1 m c (Proc.devRef .tc main_cst) (ix2 (Fin.castLE (by decide : 33734 ≤ 33792) r) k)) k

theorem rowsMax_apply (c : Dev nD) (r : Fin 33792) (h : r.val < 33734) :
    rowsMax m c (ix2 r (0 : Fin 1)) = rowMax fun k => V1 m c (Proc.devRef .tc main_v5) (ix2 (⟨r.val, h⟩ : Fin 33734) k) := by
  unfold rowsMax; exact upTo_apply _ r 0 h

theorem rowsArg_apply (c : Dev nD) (r : Fin 33792) (h : r.val < 33734) :
    rowsArg m c (ix2 r (0 : Fin 1)) = rowArg fun k => V1 m c (Proc.devRef .tc main_v5) (ix2 (⟨r.val, h⟩ : Fin 33734) k) := by
  unfold rowsArg; exact upTo_apply _ r 0 h

theorem rowsBox_apply (c : Dev nD) (r : Fin 33792) (h : r.val < 33734) (k : Fin 4) :
    rowsBox m c (ix2 r k) = boxOf (fun k => V1 m c (Proc.devRef .tc main_arg0) (ix2 (⟨r.val, h⟩ : Fin 33734) k)) (fun k => V1 m c (Proc.devRef .tc main_cst) (ix2 r k)) k := by
  unfold rowsBox; exact upTo_apply _ r k h

/-- The memory the pre call leaves. -/
def base (c : Dev nD) : Valuation τ sig (Elt Ideal) := set3 m c (rowsMax m c) (rowsArg m c) (rowsBox m c)

/-- The memory the pre call leaves, at every item. -/
def outs₁ : Outs (F := Ideal) := fun _ r c => base m c (Proc.devRef .tc r)

/-- The memory each call leaves. -/
def theOuts : Outs (F := Ideal) := fun n r c =>
  if n = 11 then Function.update (base m c) main_v18 (kept1 (arr1 m (outs₁ m) c 0) (arr1 m (outs₁ m) c 1) (arr1 m (outs₁ m) c 2)) (Proc.devRef .tc r)
  else base m c (Proc.devRef .tc r)

theorem theOuts_two (r : Ref sig .tc) (c : Dev nD) : theOuts m 2 r c = outs₁ m 2 r c := if_neg (by decide)

theorem V10_theOuts (c : Dev nD) : V10 m (theOuts m) c = V10 m (outs₁ m) c := by
  have h : V2 m (theOuts m) c = V2 m (outs₁ m) c := by simp only [V2, theOuts_two]
  simp only [V10, V9, V8, V7, V6, V5, V4, V3, h]

theorem arr1_theOuts (c : Dev nD) (w) : arr1 m (theOuts m) c w = arr1 m (outs₁ m) c w := by
  unfold arr1; rw [V10_theOuts]

theorem leaves_theOuts : Leaves m (theOuts m) where
  max c r h := by
    rw [theOuts_two, ← rowsMax_apply]
    exact congrFun (set3_0 m c (rowsMax m c) (rowsArg m c) (rowsBox m c)) _
  arg c r h := by
    rw [theOuts_two, ← rowsArg_apply]
    exact congrFun (set3_1 m c (rowsMax m c) (rowsArg m c) (rowsBox m c)) _
  box c r h k := by
    rw [theOuts_two, ← rowsBox_apply]
    exact congrFun (set3_2 m c (rowsMax m c) (rowsArg m c) (rowsBox m c)) _
  keep c := by
    simp only [arr1_theOuts]
    unfold theOuts
    rw [if_pos rfl, Function.update_self]

/-- The memory after the pre call, its arrays at `G`. -/
def mk0 (c : Dev nD) (G : (w : Fin (cfg0 (F := Ideal)).W) → Buf (Elt Ideal) (((cfg0 (F := Ideal)).win w).arr.view.loc (c.tc : Thread nD τ))) : Valuation τ sig (Elt Ideal) :=
  set3 m c (G 3) (G 4) (G 5)

theorem mk0_input (c : Dev nD) (G) (r : Ref sig .tc) (h0 : r ≠ main_v6_0) (h1 : r ≠ main_v6_1) (h2 : r ≠ main_v6_2) :
    mk0 m c G (Proc.devRef .tc r) = V1 m c (Proc.devRef .tc r) :=
  set3_of m c _ _ _ _ (StableHlo.devRef_ne_of_ne h0) (StableHlo.devRef_ne_of_ne h1) (StableHlo.devRef_ne_of_ne h2)

theorem mk0_arr (c : Dev nD) (G) (hG : ∀ w, (rdat0 m c).ArrAt w (cfg0 (F := Ideal)).N (G w)) (w : Fin (cfg0 (F := Ideal)).W) :
    G w = mk0 m c G (Proc.devRef .tc (Pipeline.arrRef spec0 w)) := by
  have input (w) (hw : ((cfg0 (F := Ideal)).win w).isOut = false) : G w = arr0 m c w :=
    (congrFun ((rdat0 m c).ArrAt_in w hw (cfg0 (F := Ideal)).N) (G w)).mp (hG w)
  match w with
  | 0 => exact (input 0 rfl).trans (mk0_input m c G main_v5 (by decide) (by decide) (by decide)).symm
  | 1 => exact (input 1 rfl).trans (mk0_input m c G main_arg0 (by decide) (by decide) (by decide)).symm
  | 2 => exact (input 2 rfl).trans (mk0_input m c G main_cst (by decide) (by decide) (by decide)).symm
  | 3 => exact (set3_0 m c _ _ _).symm
  | 4 => exact (set3_1 m c _ _ _).symm
  | 5 => exact (set3_2 m c _ _ _).symm
  | ⟨_ + 6, h⟩ => exact absurd h (Nat.not_lt.2 (Nat.le_add_left _ _))

theorem mk0_off (c : Dev nD) (G) : ∀ d ∈ Pipeline.ucRefs τ sig \ Pipeline.arrRefs spec0, mk0 m c G d = V1 m c d := by
  intro d hd
  have h := (Finset.mem_sdiff.1 hd).2
  refine set3_of m c _ _ _ d ?_ ?_ ?_
  all_goals rintro rfl; exact h (by decide)

/-- The first rows of an array. -/
theorem head_apply {α : Type} {n : ℕ} (x : (Shape.mk 2 ![33792, n]).Idx → α) (hs : (Shape.mk 2 ![33792, n]).Slices ![0, 0] (Shape.mk 2 ![33734, n])) (a : Fin 33734) (b : Fin n) :
    extractStridedSlice (Shape.mk 2 ![33734, n]) ![0, 0] x hs (ix2 a b) = x (ix2 (Fin.castLE (by decide : 33734 ≤ 33792) a) b) :=
  extractStridedSlice_apply _ _ _ _ _ (by intro k; fin_cases k <;> simp [ix2])

section

variable (o : Outs (F := Ideal)) (c : Dev nD)

theorem V2_eq : V2 m o c = set3 m c (o 2 main_v6_0 c) (o 2 main_v6_1 c) (o 2 main_v6_2 c) := rfl

theorem V2_0 : (V2 m o c (Proc.devRef .tc main_v6_0) : S33792x1.Idx → EReal) = o 2 main_v6_0 c := set3_0 m c _ _ _
theorem V2_1 : (V2 m o c (Proc.devRef .tc main_v6_1) : S33792x1.Idx → BitVec 32) = o 2 main_v6_1 c := set3_1 m c _ _ _
theorem V2_2 : (V2 m o c (Proc.devRef .tc main_v6_2) : S33792x4.Idx → EReal) = o 2 main_v6_2 c := set3_2 m c _ _ _

end

/-- Read up to the array's end, the memory after the pre call is the one it leaves, whatever its arrays hold beyond. -/
theorem mk0_slices {o : Outs (F := Ideal)} (ho : Leaves m o) (c : Dev nD) (G) (hG : ∀ w, (rdat0 m c).ArrAt w (cfg0 (F := Ideal)).N (G w))
    (r : Ref sig .tc) (hr : r ∉ left0) :
    StableHlo.after hostOps1 (mk0 m c G) (Proc.devRef .tc r) = V3 m o c (Proc.devRef .tc r) := by
  by_cases hw : r ∈ hostOps1_W
  · refine after1_agree _ _ ?_ ?_ ?_ r hw
    · refine funext fun i => ?_
      obtain ⟨a, b, rfl⟩ : ∃ (a : Fin 33734) (b : Fin 1), i = ix2 a b := ⟨i 0, i 1, eq_ix2 i⟩
      obtain rfl : b = 0 := Subsingleton.elim _ _
      rw [head_apply, head_apply]
      exact (congrFun (set3_0 m c (G 3) (G 4) (G 5)) _).trans (((array_max m c (hG 3) _ a.isLt).trans (ho.max c _ a.isLt).symm).trans (congrFun (V2_0 m o c) _).symm)
    · refine funext fun i => ?_
      obtain ⟨a, b, rfl⟩ : ∃ (a : Fin 33734) (b : Fin 1), i = ix2 a b := ⟨i 0, i 1, eq_ix2 i⟩
      obtain rfl : b = 0 := Subsingleton.elim _ _
      rw [head_apply, head_apply]
      exact (congrFun (set3_1 m c (G 3) (G 4) (G 5)) _).trans (((array_arg m c (hG 4) _ a.isLt).trans (ho.arg c _ a.isLt).symm).trans (congrFun (V2_1 m o c) _).symm)
    · refine funext fun i => ?_
      obtain ⟨a, b, rfl⟩ : ∃ (a : Fin 33734) (b : Fin 4), i = ix2 a b := ⟨i 0, i 1, eq_ix2 i⟩
      rw [head_apply, head_apply]
      exact (congrFun (set3_2 m c (G 3) (G 4) (G 5)) _).trans (((array_box m c (hG 5) _ a.isLt b).trans (ho.box c _ a.isLt b).symm).trans (congrFun (V2_2 m o c) _).symm)
  · rw [StableHlo.after_of_writes_sub hostOps1 _ hostOps1_writes hw, V3_of m o c r hw]
    have h : r ≠ main_v6_0 ∧ r ≠ main_v6_1 ∧ r ≠ main_v6_2 := by
      simpa [left0] using hr
    rw [V2_of m o c r (by simpa using h)]
    exact mk0_input m c G r h.1 h.2.1 h.2.2

end Cert.Proof.K
-- ==== Proof.Regs.lean ====
/-
  The two calls as records of the program's run: from the memory before each to the memory after it.
-/
module

public import proofs.«01_k».proof.Proof.Outs

@[expose] public section

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

local notation "𝕀" => MT nD τ sig Unit (Elt Ideal) ℕ (UR sig nD τ) ℕ
open Idealize.ShloMosaic.Pipeline (RDat)

variable (m : (ℓ : Loc nD τ sig) → Buf (Elt Ideal) ℓ) (o : Outs (F := Ideal))

/-- The calls' proof data. -/
def rdats : (p : Fin 2) → (c : Dev nD) → RDat τ (Elt Ideal) Unit ℕ (UR sig nD τ) ℕ (Pipeline.pin (pcfgs (F := Ideal)) adm p) c
  | 0 => rdat0 m
  | 1 => rdat1 m o
  | ⟨_ + 2, h⟩ => absurd h (Nat.not_lt.2 (Nat.le_add_left _ _))

/-- The buffers held after the first host line behind the pre call: all but that call's results. -/
abbrev rest : Finset (DevRef τ sig) := Pipeline.ucRefsBut τ sig left0

theorem arr1_boxes (c : Dev nD) (k : Fin 4) (j : Fin 1024) :
    (arr1 m o c 1 : S4x1024.Idx → EReal) (ix2 k j) = (arr1 m o c 0 : S1024x4.Idx → EReal) (ix2 j k) := by
  have h15 : V10 m o c (Proc.devRef .tc main_v15) = V8 m o c (Proc.devRef .tc main_v15) := by
    rw [V10_of m o c main_v15 (by decide), V9_of m o c main_v15 (by decide)]
  have h14 : V10 m o c (Proc.devRef .tc main_v14) = V7 m o c (Proc.devRef .tc main_v14) := by
    rw [V10_of m o c main_v14 (by decide), V9_of m o c main_v14 (by decide), V8_of m o c main_v14 (by decide)]
  have ht : V8 m o c (Proc.devRef .tc main_v15) = transpose S4x1024 [1, 0] (V7 m o c (Proc.devRef .tc main_v14)) transposes_S1024x4_S4x1024_1_0 := by
    unfold V8; after_results
  show (V10 m o c (Proc.devRef .tc main_v15)  : S4x1024.Idx → EReal) (ix2 k j) = (V10 m o c (Proc.devRef .tc main_v14)  : S1024x4.Idx → EReal) (ix2 j k)
  rw [h15, h14, ht]
  pointwise

theorem settled (c : Dev nD) : Settles (k1_pay2 (F := Ideal) (arr1 m o c 2)) (maskOf (F := Ideal) (arr1 m o c 0) (arr1 m o c 1)) 1023 := by
  rw [pay2_enc]
  exact settles (isMask_maskOf _ _ (fun i k => (arr1 m o c 0 : S1024x4.Idx → EReal) (ix2 i k)) (fun _ _ => rfl) (arr1_boxes m o c)) _

/-- The memory after the suppression call, its result at `x`. -/
def set1 (c : Dev nD) (x : S1x1024.Idx → EReal) : Valuation τ sig (Elt Ideal) := Function.update (V10 m o c) main_v18 x

theorem set1_self (c : Dev nD) (x : S1x1024.Idx → EReal) : (set1 m o c x (Proc.devRef .tc main_v18) : S1x1024.Idx → EReal) = x := by
  unfold set1; rw [Function.update_self]

theorem set1_of (c : Dev nD) (x : S1x1024.Idx → EReal) (d : DevRef τ sig) (h : d ≠ main_v18) : set1 m o c x d = V10 m o c d := by
  unfold set1; rw [Function.update_of_ne h]

variable {o} (ho : Leaves m o)

/-- The memory after the suppression call, its arrays at `G`. -/
def mk1 (o : Outs (F := Ideal)) (c : Dev nD) (G : (w : Fin (cfg1 (F := Ideal)).W) → Buf (Elt Ideal) (((cfg1 (F := Ideal)).win w).arr.view.loc (c.tc : Thread nD τ))) : Valuation τ sig (Elt Ideal) :=
  set1 m o c (G 3)

theorem mk1_input (c : Dev nD) (G) (r : Ref sig .tc) (h : r ≠ main_v18) : mk1 m o c G (Proc.devRef .tc r) = V10 m o c (Proc.devRef .tc r) :=
  set1_of m o c _ _ (StableHlo.devRef_ne_of_ne h)

theorem mk1_arr (c : Dev nD) (G) (hG : ∀ w, (rdat1 m o c).ArrAt w (cfg1 (F := Ideal)).N (G w)) (w : Fin (cfg1 (F := Ideal)).W) :
    G w = mk1 m o c G (Proc.devRef .tc (Pipeline.arrRef spec1 w)) := by
  have input (w) (hw : ((cfg1 (F := Ideal)).win w).isOut = false) : G w = arr1 m o c w :=
    (congrFun ((rdat1 m o c).ArrAt_in w hw (cfg1 (F := Ideal)).N) (G w)).mp (hG w)
  match w with
  | 0 => exact (input 0 rfl).trans (mk1_input m c G main_v14 (by decide)).symm
  | 1 => exact (input 1 rfl).trans (mk1_input m c G main_v15 (by decide)).symm
  | 2 => exact (input 2 rfl).trans (mk1_input m c G main_v17 (by decide)).symm
  | 3 => exact (set1_self m o c _).symm
  | ⟨_ + 4, h⟩ => exact absurd h (Nat.not_lt.2 (Nat.le_add_left _ _))

theorem mk1_off (c : Dev nD) (G) : ∀ d ∈ rest \ Pipeline.arrRefs spec1, mk1 m o c G d = V10 m o c d := by
  intro d hd
  have h := (Finset.mem_sdiff.1 hd).2
  refine set1_of m o c _ d ?_
  rintro rfl; exact h (by decide)

theorem whole1 : ((cfg1 (F := Ideal)).win 3).WholeAt t1_0 := by decide

include ho in
theorem kept_left (c : Dev nD) (G) (hG : ∀ w, (rdat1 m o c).ArrAt w (cfg1 (F := Ideal)).N (G w)) : mk1 m o c G = V11 m o c := by
  obtain ⟨X, ⟨Y, -, hX⟩, e⟩ := RDat.ArrAt.emb_eq_of_wholeAt (hG 3) whole1
  have : (G 3 : S1x1024.Idx → EReal) = o 11 main_v18 c := by
    rw [ho.keep c]
    refine funext fun i => ?_
    exact (e i).trans (congrFun (show X = kept1 (arr1 m o c 0) (arr1 m o c 1) (arr1 m o c 2) from hX) i)
  unfold mk1
  rw [this]
  rfl

/-- The pre call's record. -/
def region0 : RDat.RegionSeg (pcfgs (F := Ideal)) adm (rdats m o) () (defs₀ (F := Ideal)) Variants.nat lvls lvl 0 :=
  region (rdats m o) 0 (launch0).toP rfl (body_obligation0 m) (fun _ _ => rfl) (fun _ => rfl) (fun _ w => by unfold RDat.share; split <;> rfl) (fun _ _ => rfl)
    (Pipeline.ucRefs τ sig) (by decide) (V1 m) (mk0 m) (fun c w => rfl) (mk0_arr m) (mk0_off m)

/-- The suppression call's record. -/
def region1 : RDat.RegionSeg (pcfgs (F := Ideal)) adm (rdats m o) () (defs₀ (F := Ideal)) Variants.nat lvls lvl 1 :=
  region (rdats m o) 1 (launch1).toP rfl (body_obligation1 m o (settled m o)) (fun _ _ => rfl) (fun _ => rfl) (fun _ w => by unfold RDat.share; split <;> rfl) (fun _ _ => rfl)
    rest (by decide) (V10 m o) (mk1 m o) (fun c w => rfl) (mk1_arr m) (mk1_off m)

end Cert.Proof.K
-- ==== Proof.Run.lean ====
/-
  The kernel's whole run: the host lines and the two calls in a chain, and what the memory holds at the end.
-/
module

public import proofs.«01_k».proof.Proof.Regs

@[expose] public section

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

local notation "𝕀" => MT nD τ sig Unit (Elt Ideal) ℕ (UR sig nD τ) ℕ
open Idealize.ShloMosaic.Pipeline (RDat)
open Idealize.ShloMosaic.Pipeline (HostSeg)

variable (m : (ℓ : Loc nD τ sig) → Buf (Elt Ideal) ℓ) (o : Outs (F := Ideal))

/-- A host line's record. -/
abbrev Line := HostSeg (Ix := Unit) (Name := ℕ) (U := UR sig nD τ) (Lvl := ℕ) (pcfgs (F := Ideal)) (defs₀ (F := Ideal)) Variants.nat lvls lvl

/-- The first host line. -/
def first : Line :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) idle

/-- A later host line, over the buffers held behind the pre call. -/
def line (ops : List (HloOp τ sig (Elt Ideal))) (hsub : ops.Forall fun op => op.bufs ⊆ StableHlo.tcRefs τ sig) (hfresh : ops.Forall fun op => op.fresh = ∅)
    (hoff : Off ops) (V : Dev nD → Valuation τ sig (Elt Ideal)) : Line :=
  HostSeg.ofOps _ _ _ _ _ rest ops
    (fun op h => Pipeline.sub_ucRefsBut left0 op ((List.forall_iff_forall_mem.mp hsub) op h) ((List.forall_iff_forall_mem.mp hoff) op h))
    (fun op h => (List.forall_iff_forall_mem.mp hfresh) op h) V idle

variable {o} (ho : Leaves m o)

theorem rest_sub : rest ⊆ Pipeline.ucRefs τ sig := Finset.sdiff_subset

include ho in
/-- The line behind the pre call leaves the same whatever that call's arrays hold beyond their end. -/
theorem held_behind (c : Dev nD) (G) (hG : ∀ w, (rdat0 m c).ArrAt w (cfg0 (F := Ideal)).N (G w)) :
    (StableHlo.held (c.tc : Thread nD τ) (Pipeline.ucRefs τ sig) (StableHlo.after hostOps1 (mk0 m c G)) : sProp 𝕀)
      ⊢ iprop(StableHlo.held (c.tc : Thread nD τ) rest (V3 m o c)
        ∗ StableHlo.held (c.tc : Thread nD τ) (Pipeline.ucRefs τ sig \ rest) (StableHlo.after hostOps1 (mk0 m c G))) := by
  rw [StableHlo.held_sub_split (c.tc : Thread nD τ) rest_sub]
  refine BI.sep_mono (Entails.of_eq (StableHlo.held_congr _ fun b hb => ?_)) (BI.Entails.refl _)
  have hb' := Finset.mem_sdiff.1 hb
  obtain ⟨r, -, rfl⟩ := Finset.mem_map.1 (Finset.mem_filter.1 hb'.1).1
  refine mk0_slices m ho c G hG r fun hr => hb'.2 (Finset.mem_map.2 ⟨r, hr, rfl⟩)

/-- The host line behind the pre call: it reads that call's rows and nothing beyond, and the call's buffers are held no longer. -/
def behind : Line where
  prog := StableHlo.seq hostOps1
  pre c := iprop(∃ G, ⌜∀ w, (rdat0 m c).ArrAt w (cfg0 (F := Ideal)).N (G w)⌝ ∗ StableHlo.held (c.tc : Thread nD τ) (Pipeline.ucRefs τ sig) (mk0 m c G) ∗ idle c)
  post c := iprop(StableHlo.held (c.tc : Thread nD τ) rest (V3 m o c) ∗ idle c)
  run c {β} k K := by
    iintro ⟨Hk, Hbd, ⟨%G, %hG, Hh, HR⟩, -⟩
    have hseq := StableHlo.wp_seq (defs := Pipeline.defs (pcfgs (F := Ideal)) (defs₀ (F := Ideal))) (Variants.lift Variants.nat) none Set.univ c (Pipeline.ucRefs τ sig) k (K := K) hostOps1
      (fun op h => Pipeline.sub_ucRefs op ((List.forall_iff_forall_mem.mp hostOps1_sub) op h))
      (fun op h => (List.forall_iff_forall_mem.mp hostOps1_fresh) op h) (mk0 m c G)
    iapply hseq $$ [Hbd Hh]
    · isplitl [Hbd] <;> iassumption
    iintro ⟨Hbd, Hh⟩
    iapply Hk
    isplitl [Hbd]; · iexact Hbd
    ihave Hh := (held_behind m ho c G hG) $$ Hh
    icases Hh with ⟨Hh, -⟩
    isplitl [Hh] <;> iassumption

/-- The program's items on a core. -/
abbrev items (c : Dev nD) : List (RDat.Seg (pcfgs (F := Ideal)) adm (rdats m o) () (defs₀ (F := Ideal)) Variants.nat lvls lvl) :=
  [.host (first m), .region (region0 m (o := o)), .host (behind m ho),
    .host (line hostOps1_1 hostOps1_1_sub hostOps1_1_fresh off1_1 (V3 m o)), .host (line hostOps1_2 hostOps1_2_sub hostOps1_2_fresh off1_2 (V4 m o)),
    .host (line hostOps1_3 hostOps1_3_sub hostOps1_3_fresh off1_3 (V5 m o)), .host (line hostOps1_4 hostOps1_4_sub hostOps1_4_fresh off1_4 (V6 m o)),
    .host (line hostOps1_5 hostOps1_5_sub hostOps1_5_fresh off1_5 (V7 m o)), .host (line hostOps1_6 hostOps1_6_sub hostOps1_6_fresh off1_6 (V8 m o)),
    .host (line hostOps1_7 hostOps1_7_sub hostOps1_7_fresh off1_7 (V9 m o)), .region (region1 m (o := o)),
    .host (line hostOps2 hostOps2_sub hostOps2_fresh off2 (V11 m o)), .host (line hostOps2_1 hostOps2_1_sub hostOps2_1_fresh off2_1 (V12 m o)),
    .host (line hostOps2_2 hostOps2_2_sub hostOps2_2_fresh off2_2 (V13 m o)), .host (line hostOps2_3 hostOps2_3_sub hostOps2_3_fresh off2_3 (V14 m o)),
    .host (line hostOps2_4 hostOps2_4_sub hostOps2_4_fresh off2_4 (V15 m o)), .host (line hostOps2_5 hostOps2_5_sub hostOps2_5_fresh off2_5 (V16 m o)),
    .host (line hostOps2_6 hostOps2_6_sub hostOps2_6_fresh off2_6 (V17 m o)), .host (line hostOps2_7 hostOps2_7_sub hostOps2_7_fresh off2_7 (V18 m o)),
    .host (line hostOps2_8 hostOps2_8_sub hostOps2_8_fresh off2_8 (V19 m o))]

include ho in
theorem region1_post (c : Dev nD) : (region1 m (o := o)).post c ⊢ iprop(StableHlo.held (c.tc : Thread nD τ) rest (V11 m o c) ∗ idle c) := by
  show iprop(∃ G, ⌜∀ w, (rdat1 m o c).ArrAt w (cfg1 (F := Ideal)).N (G w)⌝ ∗ StableHlo.held (c.tc : Thread nD τ) rest (mk1 m o c G) ∗ idle c) ⊢ _
  iintro ⟨%G, %hG, H⟩
  iapply (Entails.of_eq (by rw [kept_left m ho c G hG])) $$ H

set_option backward.isDefEq.respectTransparency.types false in
include ho in
/-- THE RUN: every run ends, with every buffer a later operation may name at the contents the lines and the calls leave, and every
    semaphore at zero. -/
theorem run (ρ : Dev nD → PrngReg) :
    θ_run defs (onTc (τ := τ) (main (F := Ideal))) ⟨m, fun _ => 0, ρ⟩ (fun r =>
      (∀ (c : Dev nD) (b : Ref sig .tc), ¬ (Proc.devRef .tc b : DevRef τ sig).isScoped → b ∉ left0 →
        r.2.mem ((c.tc : Thread nD τ).loc b) = V20 m o c (Proc.devRef .tc b)) ∧ r.2.sem = fun _ => 0) := by
  refine RDat.θ_run_regions_kit_dev_sems (pcfgs (F := Ideal)) adm (rdats m o) () cellOf_inj emb₁ (defs₀ (F := Ideal)) Variants.nat lvls lvl m ρ main (items m ho)
    (fun c Q => by
      rewrite [main_chain c, RDat.Seg.run_eq_chain,
        show (items m ho c).map RDat.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      dsimp (config := { failIfUnchanged := false }) only
      exact .rfl)
    (fun c => by simp only [items, RDat.Seg.pipes_host, RDat.Seg.pipes_region, RDat.Seg.pipes_nil]; decide)
    0 (fun _ _ => rfl) (fun _ => BI.emp) (initOf (Pipeline.cells (Pipeline.pin (pcfgs (F := Ideal)) adm) cellOf_inj) (Pipeline.launchToks (Pipeline.pin (pcfgs (F := Ideal)) adm) cellOf_inj))
    (by
      iintro Hu; imodintro
      isplitl [Hu]
      · iapply (Entails.of_eq (ownU_emb₁ _)) $$ Hu
      iapply (show (BI.emp : sProp 𝕀) ⊢ bigSep Finset.univ (fun _ : Dev nD => (BI.emp : sProp 𝕀)) from Entails.of_eq (BI.bigSep_emp_const _).symm)
      iempintro)
    (T₀ := fun c => iprop(StableHlo.held (c : Thread nD τ) (Pipeline.ucRefs τ sig) (V0 m c) ∗ idle c))
    (Tₙ := fun c => StableHlo.held (c : Thread nD τ) rest (V20 m o c))
    (hch := fun c => ⟨.rfl, .rfl, .rfl, .rfl, .rfl, .rfl, .rfl, .rfl, .rfl, .rfl, .rfl, region1_post m ho c, .rfl, .rfl, .rfl, .rfl, .rfl, .rfl, .rfl, .rfl, .rfl⟩)
    (hinit := ?_)
    (QY := fun c s => ∀ b : Ref sig .tc, ¬ (Proc.devRef .tc b : DevRef τ sig).isScoped → b ∉ left0 → s.mem ((c.tc : Thread nD τ).loc b) = V20 m o c (Proc.devRef .tc b))
    (hfin := fun c s' => ?_) (hQ := fun _ h hz => ⟨h, funext fun g => hz g (.inr (regions_no_unscoped g.2))⟩)
  · refine Pipeline.initEach lvls lvl fun c => ?_
    iintro ⟨⟨Hb, -, HO, -⟩, -⟩
    imodintro
    isplitl [Hb]
    · rw [← Pipeline.unscopedBufs_held (Ix := Unit) (Name := ℕ) (U := UR sig nD τ) (Lvl := ℕ) c (V0 m c)]; iexact Hb
    unfold idle
    iexists ∅; iexact HO
  · unfold StableHlo.held
    iintro ⟨Hh, HSI⟩
    ihave Hr := (pointsTo_read_all rest (fun b => ((c : Thread nD τ).1, b)) (V20 m o c) s') $$ [Hh HSI]
    · isplitl [Hh] <;> iassumption
    icases Hr with ⟨%h, HSI⟩
    imodintro
    isplitr
    · ipureintro
      exact fun b hb hl => h (Proc.devRef .tc b) (Pipeline.mem_ucRefsBut left0 b hb hl)
    · iexact HSI

end Cert.Proof.K
-- ==== Proof.RefFrame.lean ====
/-
  The reference's run leaves its two arguments as they were and every semaphore at zero.
-/
module

public import proofs.«01_k».proof.Proof.Gen.ReferenceIdeal
public import proofs.«01_k».proof.Proof.Gen.ReferenceIdeal.Run
public import Idealize.ShloMosaic.Lib.Quiescent
public import Idealize.ShloMosaic.Lib.IdealHost

@[expose] public section

noncomputable section

namespace Cert.Proof.R

open Cert.ReferenceIdeal Cert.ReferenceIdeal.Gen Cert.ReferenceIdeal.Value
open Idealize.ShloMosaic Idealize.ShloMosaic.StableHlo
open Idealize.ShloMosaic.TcCoe
open Idealize.SL.Sem

variable (m : (ℓ : Loc nD τ sig) → Buf (Elt Ideal) ℓ)

/-! What the lines after the loop write. -/

abbrev post10_W : List (Ref sig .tc) :=
  [main_cst_12]
theorem post10_writes : (hostOps0_10 : List (HloOp τ sig (Elt Ideal))).Forall fun op => op.writes ⊆ (post10_W.map (Proc.devRef (τ
    := τ) .tc)).toFinset :=
  StableHlo.forall_writes_sub_of_map rfl
abbrev post11_W : List (Ref sig .tc) :=
  [main_call6_v0, main_call6_v1, main_v87]
theorem post11_writes : (hostOps0_11 : List (HloOp τ sig (Elt Ideal))).Forall fun op => op.writes ⊆ (post11_W.map (Proc.devRef (τ
    := τ) .tc)).toFinset :=
  StableHlo.forall_writes_sub_of_map rfl
abbrev post12_W : List (Ref sig .tc) :=
  [main_values_13, main_indices_14]
theorem post12_writes : (hostOps0_12 : List (HloOp τ sig (Elt Ideal))).Forall fun op => op.writes ⊆ (post12_W.map (Proc.devRef (τ
    := τ) .tc)).toFinset :=
  StableHlo.forall_writes_sub_of_map rfl
abbrev post13_W : List (Ref sig .tc) :=
  [main_call7_c, main_call7_v0, main_call7_v1, main_call7_c_0, main_call7_v2, main_call7_v3, main_call7_v4, main_call7_v5,
   main_call7_c_1, main_call7_c_2, main_call7_v6, main_call7_v7, main_call7_v8, main_call7_v9, main_call7_v10, main_call7_v11,
   main_call7_c_3, main_call7_v12, main_call7_v13, main_call7_v14, main_call7_cst, main_call7_v15, main_v88]
theorem post13_writes : (hostOps0_13 : List (HloOp τ sig (Elt Ideal))).Forall fun op => op.writes ⊆ (post13_W.map (Proc.devRef (τ
    := τ) .tc)).toFinset :=
  StableHlo.forall_writes_sub_of_map rfl
abbrev post14_W : List (Ref sig .tc) :=
  [main_call8_c, main_call8_v0, main_call8_v1, main_call8_c_0, main_call8_v2, main_call8_v3, main_call8_v4, main_call8_v5,
   main_call8_c_1, main_call8_c_2, main_call8_v6, main_call8_v7, main_call8_v8, main_call8_v9, main_call8_v10, main_call8_v11,
   main_call8_c_3, main_call8_v12, main_call8_v13, main_call8_c_4, main_call8_v14, main_v89]
theorem post14_writes : (hostOps0_14 : List (HloOp τ sig (Elt Ideal))).Forall fun op => op.writes ⊆ (post14_W.map (Proc.devRef (τ
    := τ) .tc)).toFinset :=
  StableHlo.forall_writes_sub_of_map rfl
abbrev post15_W : List (Ref sig .tc) :=
  [main_call9_c, main_call9_v0, main_call9_v1, main_call9_c_0, main_call9_v2, main_call9_v3, main_call9_v4, main_call9_v5,
   main_call9_c_1, main_call9_c_2, main_call9_v6, main_call9_v7, main_call9_v8, main_call9_v9, main_call9_v10, main_call9_v11,
   main_call9_c_3, main_call9_v12, main_call9_v13, main_call9_c_4, main_call9_v14, main_v90]
theorem post15_writes : (hostOps0_15 : List (HloOp τ sig (Elt Ideal))).Forall fun op => op.writes ⊆ (post15_W.map (Proc.devRef (τ
    := τ) .tc)).toFinset :=
  StableHlo.forall_writes_sub_of_map rfl
abbrev post16_W : List (Ref sig .tc) :=
  [main_v91, main_c_15, main_v92, main_c_16, main_v93, main_v94, main_v95, main_v96, main_cst_17]
theorem post16_writes : (hostOps0_16 : List (HloOp τ sig (Elt Ideal))).Forall fun op => op.writes ⊆ (post16_W.map (Proc.devRef (τ
    := τ) .tc)).toFinset :=
  StableHlo.forall_writes_sub_of_map rfl
abbrev post17_W : List (Ref sig .tc) :=
  [main_call10_v0, main_call10_v1, main_v97]
theorem post17_writes : (hostOps0_17 : List (HloOp τ sig (Elt Ideal))).Forall fun op => op.writes ⊆ (post17_W.map (Proc.devRef (τ
    := τ) .tc)).toFinset :=
  StableHlo.forall_writes_sub_of_map rfl
abbrev post18_W : List (Ref sig .tc) :=
  [main_v98, main_v99, main_v100, main_v101]
theorem post18_writes : (hostOps0_18 : List (HloOp τ sig (Elt Ideal))).Forall fun op => op.writes ⊆ (post18_W.map (Proc.devRef (τ
    := τ) .tc)).toFinset :=
  StableHlo.forall_writes_sub_of_map rfl

/-- A buffer is out of the reach of every line of the reference: before, in and after the loop. -/
structure Spared (r : Ref sig .tc) : Prop where
  pre : ∀ V, afterL (preI (F := Ideal)) V (Proc.devRef .tc r) = V (Proc.devRef .tc r)
  cond : ∀ V, after (condOps (F := Ideal)) V (Proc.devRef .tc r) = V (Proc.devRef .tc r)
  body : ∀ V, afterL (bodyI (F := Ideal)) V (Proc.devRef .tc r) = V (Proc.devRef .tc r)
  post : ∀ V, afterL (postI (F := Ideal)) V (Proc.devRef .tc r) = V (Proc.devRef .tc r)

/-- A spared buffer ends as it was at the start. -/
theorem Spared.final {r : Ref sig .tc} (h : Spared r) (c : Dev nD) :
    finalContents condOps preI bodyI postI 1000 m c (Proc.devRef .tc r) = m ((c.tc : Thread nD τ).loc r) := by
  have loop : ∀ k, atK m k c (Proc.devRef .tc r) = m ((c.tc : Thread nD τ).loc r) := by
    intro k
    induction k with
    | zero => exact h.pre _
    | succ k ih => exact (h.body _).trans ((h.cond _).trans ih)
  exact (h.post _).trans ((h.cond _).trans (loop 1000))

/-- What each line of the reference writes. -/
abbrev touched : List (List (Ref sig .tc)) :=
  [condOps_W, while0Ops0_W, while0Ops0_1_W, hostOps0_W, hostOps0_1_W, hostOps0_2_W, hostOps0_3_W, hostOps0_4_W, hostOps0_5_W, hostOps0_6_W, hostOps0_7_W, hostOps0_8_W, hostOps0_9_W,
   post10_W, post11_W, post12_W, post13_W, post14_W, post15_W, post16_W, post17_W, post18_W]

/-- A buffer no line writes is spared. -/
theorem spared {r : Ref sig .tc} (h : ∀ W ∈ touched, r ∉ W) : Spared r := by
  constructor <;> intro V
  · simp only [afterL_cons, afterL_nil]
    rw [after_of_writes_sub _ _ hostOps0_9_writes (h _ (by simp [touched])), after_of_writes_sub _ _ hostOps0_8_writes (h _ (by simp [touched])),
      after_of_writes_sub _ _ hostOps0_7_writes (h _ (by simp [touched])), after_of_writes_sub _ _ hostOps0_6_writes (h _ (by simp [touched])),
      after_of_writes_sub _ _ hostOps0_5_writes (h _ (by simp [touched])), after_of_writes_sub _ _ hostOps0_4_writes (h _ (by simp [touched])),
      after_of_writes_sub _ _ hostOps0_3_writes (h _ (by simp [touched])), after_of_writes_sub _ _ hostOps0_2_writes (h _ (by simp [touched])),
      after_of_writes_sub _ _ hostOps0_1_writes (h _ (by simp [touched])), after_of_writes_sub _ _ hostOps0_writes (h _ (by simp [touched]))]
  · exact after_of_writes_sub _ _ condOps_writes (h _ (by simp [touched]))
  · simp only [afterL_cons, afterL_nil]
    rw [after_of_writes_sub _ _ while0Ops0_1_writes (h _ (by simp [touched])), after_of_writes_sub _ _ while0Ops0_writes (h _ (by simp [touched]))]
  · simp only [afterL_cons, afterL_nil]
    rw [after_of_writes_sub _ _ post18_writes (h _ (by simp [touched])), after_of_writes_sub _ _ post17_writes (h _ (by simp [touched])),
      after_of_writes_sub _ _ post16_writes (h _ (by simp [touched])), after_of_writes_sub _ _ post15_writes (h _ (by simp [touched])),
      after_of_writes_sub _ _ post14_writes (h _ (by simp [touched])), after_of_writes_sub _ _ post13_writes (h _ (by simp [touched])),
      after_of_writes_sub _ _ post12_writes (h _ (by simp [touched])), after_of_writes_sub _ _ post11_writes (h _ (by simp [touched])),
      after_of_writes_sub _ _ post10_writes (h _ (by simp [touched]))]

theorem spared_arg0 : Spared main_arg0 := spared (by decide +kernel)

theorem spared_arg1 : Spared main_arg1 := spared (by decide +kernel)

/-- The reference's run: every buffer ends at the fold of its lines, and every semaphore at zero. -/
theorem run (ρ : Dev nD → PrngReg) : θ_run defs (onTc (τ := τ) (main (F := Ideal))) ⟨m, fun _ => 0, ρ⟩ (fun r =>
    (∀ (c : Dev nD) (b : Ref sig .tc), (Proc.devRef .tc b : DevRef τ sig).isScoped = false →
      r.2.mem ((c.tc : Thread nD τ).loc b) = finalContents condOps preI bodyI postI 1000 m c (Proc.devRef .tc b))
    ∧ r.2.sem = fun _ => 0) :=
  (θ_run defs _ _).mono (fun r h => ⟨h, sem_eq_zero_of_no_sems (by rfl) r.2⟩) (run_fold m ρ)

end Cert.Proof.R
-- ==== Proof.Tail.lean ====
/-
  What both programs compute on the host around the suppression, as functions of whole arrays: the class scores, the
  rows taken at the selected places, the results from the kept flags on.
-/
module

public import proofs.«01_k».proof.Proof.Gen.KernelIdeal
public import proofs.«01_k».proof.Proof.Gen.KernelIdeal.Launch
public import Idealize.ShloMosaic.Lib.IdealHost

@[expose] public section

noncomputable section

namespace Cert.Proof.T

open Cert.KernelIdeal Cert.KernelIdeal.Gen
open Idealize.ShloMosaic

/-- Every class score: the logistic function of the logit. -/
def scores (x : FVec Ideal S33734x21 .f32) : FVec Ideal S33734x21 .f32 :=
  Host.divf (broadcastInDim S33734x21 ![] bcast_S_S33734x21 (constant (F := Ideal) S_ .f32 0x3F800000#32))
    (addf (broadcastInDim S33734x21 ![] bcast_S_S33734x21 (constant (F := Ideal) S_ .f32 0x3F800000#32)) (Host.exp (Host.negf x)))

/-- The 1000 greatest scores, in order, -/
def top (x : FVec Ideal S33734 .f32) : FVec Ideal S1000 .f32 :=
  (Host.topK S1000 0 (FloatOps.cmpfTotal .gt) x sliceFits_S33734_S1000).1

/-- and the rows they come from. -/
def topAt (x : FVec Ideal S33734 .f32) : IVec S1000 32 :=
  (Host.topK S1000 0 (FloatOps.cmpfTotal .gt) x sliceFits_S33734_S1000).2

/-- The places to take from, a negative one counted from the end. -/
def placeTop (i : IVec S1000 32) : IVec S1000x1 32 :=
  broadcastInDim S1000x1 ![0] bcast_S1000_S1000x1_0
    (select (cmpi .slt i (broadcastInDim S1000 ![] bcast_S_S1000 (constantI S_ 32 0#32)))
      (addi i (broadcastInDim S1000 ![] bcast_S_S1000 (constantI S_ 32 33734#32))) i)

/-- The places within the array. -/
def fitTop (j : IVec S1000x1 32) : IVec S1000 1 :=
  Host.reduce IntOp.andi
    (andi (cmpi .sge j (broadcastInDim S1000x1 ![] bcast_S_S1000x1 (constantI S_ 32 0#32)))
      (cmpi .sle j (broadcastInDim S1000x1 ![0, 1] bcast_S1x1_S1000x1_0_1 (broadcastInDim S1x1 ![1] bcast_S1_S1x1_1 (constantI S1 32 33733#32)))))
    (constantI S_ 1 1#1) reducesTo_S1000x1_S1000_d1 h_S_

/-- The selected boxes. -/
def boxesTop (x : FVec Ideal S33734x4 .f32) (i : IVec S1000 32) : FVec Ideal S1000x4 .f32 :=
  select (broadcastInDim S1000x4 ![0] bcast_S1000_S1000x4_0 (fitTop (placeTop i)))
    (Host.gather gather_S33734x4_S1000x1_S1000x4_1_0_n_n_0_1_14 x (placeTop i))
    (broadcastInDim S1000x4 ![] bcast_S_S1000x4 (constant (F := Ideal) S_ .f32 0x7FC00000#32))

/-- The selected boxes' classes. -/
def classesTop (x : IVec S33734 32) (i : IVec S1000 32) : IVec S1000 32 :=
  select (fitTop (placeTop i)) (Host.gather gather_S33734_S1000x1_S1000_n_0_n_n_0_1_1 x (placeTop i))
    (broadcastInDim S1000 ![] bcast_S_S1000 (constantI S_ 32 2147483648#32))

/-- The kept scores, −1 in place of the others. -/
def masked (keep : IVec S1000 1) (s : FVec Ideal S1000 .f32) : FVec Ideal S1000 .f32 :=
  select keep s (broadcastInDim S1000 ![] bcast_S_S1000 (id (constant (F := Ideal) S_ .f32 0xBF800000#32)))

/-- The 200 greatest of them, -/
def best (x : FVec Ideal S1000 .f32) : FVec Ideal S200 .f32 :=
  (Host.topK S200 0 (FloatOps.cmpfTotal .gt) x sliceFits_S1000_S200).1

/-- and where they stand. -/
def bestAt (x : FVec Ideal S1000 .f32) : IVec S200 32 :=
  (Host.topK S200 0 (FloatOps.cmpfTotal .gt) x sliceFits_S1000_S200).2

/-- The places to take from among the selected, a negative one counted from the end. -/
def placeBest (i : IVec S200 32) : IVec S200x1 32 :=
  broadcastInDim S200x1 ![0] bcast_S200_S200x1_0
    (select (cmpi .slt i (broadcastInDim S200 ![] bcast_S_S200 (constantI S_ 32 0#32)))
      (addi i (broadcastInDim S200 ![] bcast_S_S200 (constantI S_ 32 1000#32))) i)

/-- The places within the selected. -/
def fitBest (j : IVec S200x1 32) : IVec S200 1 :=
  Host.reduce IntOp.andi
    (andi (cmpi .sge j (broadcastInDim S200x1 ![] bcast_S_S200x1 (constantI S_ 32 0#32)))
      (cmpi .sle j (broadcastInDim S200x1 ![0, 1] bcast_S1x1_S200x1_0_1 (broadcastInDim S1x1 ![1] bcast_S1_S1x1_1 (constantI S1 32 999#32)))))
    (constantI S_ 1 1#1) reducesTo_S200x1_S200_d1 h_S_

/-- The best boxes. -/
def boxesBest (x : FVec Ideal S1000x4 .f32) (i : IVec S200 32) : FVec Ideal S200x4 .f32 :=
  select (broadcastInDim S200x4 ![0] bcast_S200_S200x4_0 (fitBest (placeBest i)))
    (Host.gather gather_S1000x4_S200x1_S200x4_1_0_n_n_0_1_14 x (placeBest i))
    (broadcastInDim S200x4 ![] bcast_S_S200x4 (constant (F := Ideal) S_ .f32 0x7FC00000#32))

/-- Integers taken at the best places: their classes, their rows. -/
def intsBest (x : IVec S1000 32) (i : IVec S200 32) : IVec S200 32 :=
  select (fitBest (placeBest i)) (Host.gather gather_S1000_S200x1_S200_n_0_n_n_0_1_1 x (placeBest i))
    (broadcastInDim S200 ![] bcast_S_S200 (constantI S_ 32 2147483648#32))

/-- How many are kept, 200 at most, from the flags as numbers. -/
def count (k : IVec S1000 32) : IVec S_ 32 :=
  minsi (Host.reduce IntOp.addi k (constantI S_ 32 0#32) reducesTo_S1000_S_d0 h_S_) (constantI S_ 32 200#32)

/-- The places before the count. -/
def valid (n : IVec S_ 32) : IVec S200 1 := cmpi .slt (iotaInDim S200 32 0) (broadcastInDim S200 ![] bcast_S_S200 n)

/-- The scores, 0 from the count on. -/
def outScores (n : IVec S_ 32) (s : FVec Ideal S200 .f32) : FVec Ideal S200 .f32 :=
  select (valid n) s (broadcastInDim S200 ![] bcast_S_S200 (id (constant (F := Ideal) S_ .f32 0x00000000#32)))

/-- The boxes, 0 from the count on. -/
def outBoxes (n : IVec S_ 32) (b : FVec Ideal S200x4 .f32) : FVec Ideal S200x4 .f32 :=
  mulf b (broadcastInDim S200x4 ![0, 1] bcast_S200x1_S200x4_0_1 (uitofp .f32 (broadcastInDim S200x1 ![0] bcast_S200_S200x1_0 (valid n))))

/-! The results, from the rows' greatest scores `mx`, their classes `ar` and boxes `bx`, and the kept flags: as bits
(`keep`) and as numbers (`kn`). -/

section

variable (mx : FVec Ideal S33734 .f32) (ar : IVec S33734 32) (bx : FVec Ideal S33734x4 .f32) (keep : IVec S1000 1) (kn : IVec S1000 32)

def resultBoxes : FVec Ideal S200x4 .f32 :=
  outBoxes (count kn) (boxesBest (boxesTop bx (topAt mx)) (bestAt (masked keep (top mx))))
def resultScores : FVec Ideal S200 .f32 := outScores (count kn) (best (masked keep (top mx)))
def resultClasses : IVec S200 32 := intsBest (classesTop ar (topAt mx)) (bestAt (masked keep (top mx)))
def resultRows : IVec S200 32 := intsBest (topAt mx) (bestAt (masked keep (top mx)))

end

end Cert.Proof.T
-- ==== Proof.RLines.lean ====
/-
  What the reference's lines write outside its loop, as the functions of Tail.lean.
-/
module

public import proofs.«01_k».proof.Proof.Tail
public import proofs.«01_k».proof.Proof.RefFrame
public import Idealize.ShloMosaic.Lib.StableHlo.RunRead

@[expose] public section

noncomputable section

namespace Cert.Proof.R

open Cert.ReferenceIdeal Cert.ReferenceIdeal.Gen Cert.Proof.T
open Idealize.ShloMosaic
open Idealize.ShloMosaic.StableHlo

variable (V : Valuation τ sig (Elt Ideal))

theorem line0_scores : after hostOps0 V (Proc.devRef .tc main_v5) = scores (V (Proc.devRef .tc main_arg1)) := by
  after_results
  rfl

/-- The anchors. -/
def anchors : FVec Ideal S33734x4 .f32 := fun i => FloatOps.ofBits (F := Ideal) .f32 (lit0 (S33734x4.rowMajor i))

/-- The boxes' centres, -/
def centres (l d : FVec Ideal S33734x4 .f32) : FVec Ideal S33734x2 .f32 :=
  addf (mulf (mulf (extractStridedSlice S33734x2 ![0, 0] l slices_S33734x4_S33734x2_0_0) (broadcastInDim S33734x2 ![] bcast_S_S33734x2 (constant (F := Ideal) S_ .f32 0x3DCCCCCD#32)))
    (extractStridedSlice S33734x2 ![0, 2] d slices_S33734x4_S33734x2_0_2)) (extractStridedSlice S33734x2 ![0, 0] d slices_S33734x4_S33734x2_0_0)

/-- half their sizes, -/
def halves (l d : FVec Ideal S33734x4 .f32) : FVec Ideal S33734x2 .f32 :=
  Host.divf (mulf (Host.exp (mulf (extractStridedSlice S33734x2 ![0, 2] l slices_S33734x4_S33734x2_0_2) (broadcastInDim S33734x2 ![] bcast_S_S33734x2 (constant (F := Ideal) S_ .f32 0x3E4CCCCD#32))))
    (extractStridedSlice S33734x2 ![0, 2] d slices_S33734x4_S33734x2_0_2)) (broadcastInDim S33734x2 ![] bcast_S_S33734x2 (constant (F := Ideal) S_ .f32 0x40000000#32))

/-- the boxes as two corners, -/
def corners (l d : FVec Ideal S33734x4 .f32) : FVec Ideal S33734x4 .f32 :=
  concatenate S33734x4 1 [⟨S33734x2, subf (centres l d) (halves l d)⟩, ⟨S33734x2, addf (centres l d) (halves l d)⟩] concatenates_S33734x2_S33734x2_S33734x4_d1

/-- and clipped to the unit square. -/
def clipped (lo hi : FVec Ideal S_ .f32) (x : FVec Ideal S33734x4 .f32) : FVec Ideal S33734x4 .f32 :=
  minimumf (broadcastInDim S33734x4 ![] bcast_S_S33734x4 (id hi)) (maximumf (broadcastInDim S33734x4 ![] bcast_S_S33734x4 (id lo)) x)

theorem line0_corners : after hostOps0 V (Proc.devRef .tc main_v25) = corners (V (Proc.devRef .tc main_arg0)) anchors := by
  after_results
  rfl
theorem line0_lo : after hostOps0 V (Proc.devRef .tc main_cst_6) = constant (F := Ideal) S_ .f32 0x00000000#32 := by after_results
theorem line0_hi : after hostOps0 V (Proc.devRef .tc main_cst_7) = constant (F := Ideal) S_ .f32 0x3F800000#32 := by after_results

theorem line0_1 : after hostOps0_1 V (Proc.devRef .tc main_v26) = clipped (V (Proc.devRef .tc main_cst_6)) (V (Proc.devRef .tc main_cst_7)) (V (Proc.devRef .tc main_v25)) := by
  after_results; rfl

/-- The rows' greatest scores. -/
def maxes (x : FVec Ideal S33734x21 .f32) : FVec Ideal S33734 .f32 :=
  Host.reduce (FloatOps.maximumf (F := Ideal) (φ := .f32)) x (constant (F := Ideal) S_ .f32 0xFF800000#32) reducesTo_S33734x21_S33734_d1 h_S_

/-- Their classes. -/
def args (x : FVec Ideal S33734x21 .f32) : IVec S33734 32 := fun j =>
  (Host.argReduce (F := Ideal) reducer_argmax_f32_i32 x (iotaInDim S33734x21 32 1) (constant (F := Ideal) S_ .f32 0xFF800000#32) (constantI S_ 32 0#32) reducesTo_S33734x21_S33734_d1 h_S_ j).2

theorem line0_2 : after hostOps0_2 V (Proc.devRef .tc main_v27) = maxes (V (Proc.devRef .tc main_v5)) := by after_results; rfl
theorem line0_3 : after hostOps0_3 V (Proc.devRef .tc main_v28) = args (V (Proc.devRef .tc main_v5)) := by after_results; rfl
theorem line0_4_top : after hostOps0_4 V (Proc.devRef .tc main_values) = top (V (Proc.devRef .tc main_v27)) := by after_results; rfl
theorem line0_4_topAt : after hostOps0_4 V (Proc.devRef .tc main_indices) = topAt (V (Proc.devRef .tc main_v27)) := by after_results; rfl
theorem line0_5 : after hostOps0_5 V (Proc.devRef .tc main_v29) = boxesTop (V (Proc.devRef .tc main_v26)) (V (Proc.devRef .tc main_indices)) := by
  after_results; rfl
theorem line0_6 : after hostOps0_6 V (Proc.devRef .tc main_v30) = classesTop (V (Proc.devRef .tc main_v28)) (V (Proc.devRef .tc main_indices)) := by
  after_results; rfl

theorem line0_10 : after hostOps0_10 V (Proc.devRef .tc main_cst_12) = constant (F := Ideal) S_ .f32 0xBF800000#32 := by after_results
theorem line0_11 (h : V (Proc.devRef .tc main_cst_12) = constant (F := Ideal) S_ .f32 0xBF800000#32) :
    after hostOps0_11 V (Proc.devRef .tc main_v87) = masked (V (Proc.devRef .tc main_v86_4)) (V (Proc.devRef .tc main_values)) := by
  after_results; rw [h]; rfl
theorem line0_12_best : after hostOps0_12 V (Proc.devRef .tc main_values_13) = best (V (Proc.devRef .tc main_v87)) := by after_results; rfl
theorem line0_12_bestAt : after hostOps0_12 V (Proc.devRef .tc main_indices_14) = bestAt (V (Proc.devRef .tc main_v87)) := by after_results; rfl
theorem line0_13 : after hostOps0_13 V (Proc.devRef .tc main_v88) = boxesBest (V (Proc.devRef .tc main_v29)) (V (Proc.devRef .tc main_indices_14)) := by
  after_results; rfl
theorem line0_14 : after hostOps0_14 V (Proc.devRef .tc main_v89) = intsBest (V (Proc.devRef .tc main_v30)) (V (Proc.devRef .tc main_indices_14)) := by
  after_results; rfl
theorem line0_15 : after hostOps0_15 V (Proc.devRef .tc main_v90) = intsBest (V (Proc.devRef .tc main_indices)) (V (Proc.devRef .tc main_indices_14)) := by
  after_results; rfl
theorem line0_16_count : after hostOps0_16 V (Proc.devRef .tc main_v93) = count (extui 32 (V (Proc.devRef .tc main_v86_4) : IVec S1000 1) natLt_1_32) := by
  after_results; rfl
theorem line0_16_valid : after hostOps0_16 V (Proc.devRef .tc main_v96) = valid (count (extui 32 (V (Proc.devRef .tc main_v86_4) : IVec S1000 1) natLt_1_32)) := by
  after_results; rfl
theorem line0_16_cst : after hostOps0_16 V (Proc.devRef .tc main_cst_17) = constant (F := Ideal) S_ .f32 0x00000000#32 := by after_results
theorem line0_17 : after hostOps0_17 V (Proc.devRef .tc main_v97) =
    select (V (Proc.devRef .tc main_v96)) (V (Proc.devRef .tc main_values_13)) (broadcastInDim S200 ![] bcast_S_S200 (id (V (Proc.devRef .tc main_cst_17) : FVec Ideal S_ .f32))) := by
  after_results; rfl
theorem line0_18 : after hostOps0_18 V (Proc.devRef .tc main_v101) =
    mulf (F := Ideal) (φ := .f32) (V (Proc.devRef .tc main_v88) : FVec Ideal S200x4 .f32) (broadcastInDim S200x4 ![0, 1] bcast_S200x1_S200x4_0_1 (uitofp (F := Ideal) .f32 (broadcastInDim S200x1 ![0] bcast_S200_S200x1_0 (V (Proc.devRef .tc main_v96) : IVec S200 1)))) := by
  after_results

end Cert.Proof.R
-- ==== Proof.RVals.lean ====
/-
  The reference's results, as functions of its arguments and of the flags its loop leaves.
-/
module

public import proofs.«01_k».proof.Proof.RLines

@[expose] public section

noncomputable section

namespace Cert.Proof.R

open Cert.ReferenceIdeal Cert.ReferenceIdeal.Gen Cert.ReferenceIdeal.Value Cert.Proof.T
open Idealize.ShloMosaic
open Idealize.ShloMosaic.TcCoe
open Idealize.ShloMosaic.StableHlo

variable (m : (ℓ : Loc nD τ sig) → Buf (Elt Ideal) ℓ) (c : Dev nD)

/-! The contents after each line before the loop. -/

abbrev P0 : Valuation τ sig (Elt Ideal) := launchContents m c
abbrev P1 : Valuation τ sig (Elt Ideal) := after hostOps0 (P0 m c)
abbrev P2 : Valuation τ sig (Elt Ideal) := after hostOps0_1 (P1 m c)
abbrev P3 : Valuation τ sig (Elt Ideal) := after hostOps0_2 (P2 m c)
abbrev P4 : Valuation τ sig (Elt Ideal) := after hostOps0_3 (P3 m c)
abbrev P5 : Valuation τ sig (Elt Ideal) := after hostOps0_4 (P4 m c)
abbrev P6 : Valuation τ sig (Elt Ideal) := after hostOps0_5 (P5 m c)
abbrev P7 : Valuation τ sig (Elt Ideal) := after hostOps0_6 (P6 m c)
abbrev P8 : Valuation τ sig (Elt Ideal) := after hostOps0_7 (P7 m c)
abbrev P9 : Valuation τ sig (Elt Ideal) := after hostOps0_8 (P8 m c)
abbrev P10 : Valuation τ sig (Elt Ideal) := after hostOps0_9 (P9 m c)

theorem P1_of (r : Ref sig .tc) (h : r ∉ hostOps0_W) : P1 m c r = P0 m c r := after_of_writes_sub _ _ hostOps0_writes h
theorem P2_of (r : Ref sig .tc) (h : r ∉ hostOps0_1_W) : P2 m c r = P1 m c r := after_of_writes_sub _ _ hostOps0_1_writes h
theorem P3_of (r : Ref sig .tc) (h : r ∉ hostOps0_2_W) : P3 m c r = P2 m c r := after_of_writes_sub _ _ hostOps0_2_writes h
theorem P4_of (r : Ref sig .tc) (h : r ∉ hostOps0_3_W) : P4 m c r = P3 m c r := after_of_writes_sub _ _ hostOps0_3_writes h
theorem P5_of (r : Ref sig .tc) (h : r ∉ hostOps0_4_W) : P5 m c r = P4 m c r := after_of_writes_sub _ _ hostOps0_4_writes h
theorem P6_of (r : Ref sig .tc) (h : r ∉ hostOps0_5_W) : P6 m c r = P5 m c r := after_of_writes_sub _ _ hostOps0_5_writes h
theorem P7_of (r : Ref sig .tc) (h : r ∉ hostOps0_6_W) : P7 m c r = P6 m c r := after_of_writes_sub _ _ hostOps0_6_writes h
theorem P8_of (r : Ref sig .tc) (h : r ∉ hostOps0_7_W) : P8 m c r = P7 m c r := after_of_writes_sub _ _ hostOps0_7_writes h
theorem P9_of (r : Ref sig .tc) (h : r ∉ hostOps0_8_W) : P9 m c r = P8 m c r := after_of_writes_sub _ _ hostOps0_8_writes h
theorem P10_of (r : Ref sig .tc) (h : r ∉ hostOps0_9_W) : P10 m c r = P9 m c r := after_of_writes_sub _ _ hostOps0_9_writes h

theorem entry_eq : entryContents preI m c = P10 m c := rfl

/-- A buffer the loop does not write is as it was before it. -/
theorem atK_of (r : Ref sig .tc) (h : r ∉ condOps_W) (h' : r ∉ while0Ops0_W) (h'' : r ∉ while0Ops0_1_W) : ∀ k, atK m k c r = P10 m c r
  | 0 => rfl
  | k + 1 => (after_of_writes_sub _ _ while0Ops0_1_writes h'').trans ((after_of_writes_sub _ _ while0Ops0_writes h').trans
      ((after_of_writes_sub _ _ condOps_writes h).trans (atK_of r h h' h'' k)))

/-! The contents after the loop and after each line that follows it. -/

abbrev Q0 : Valuation τ sig (Elt Ideal) := after condOps (atK m 1000 c)
abbrev Q1 : Valuation τ sig (Elt Ideal) := after hostOps0_10 (Q0 m c)
abbrev Q2 : Valuation τ sig (Elt Ideal) := after hostOps0_11 (Q1 m c)
abbrev Q3 : Valuation τ sig (Elt Ideal) := after hostOps0_12 (Q2 m c)
abbrev Q4 : Valuation τ sig (Elt Ideal) := after hostOps0_13 (Q3 m c)
abbrev Q5 : Valuation τ sig (Elt Ideal) := after hostOps0_14 (Q4 m c)
abbrev Q6 : Valuation τ sig (Elt Ideal) := after hostOps0_15 (Q5 m c)
abbrev Q7 : Valuation τ sig (Elt Ideal) := after hostOps0_16 (Q6 m c)
abbrev Q8 : Valuation τ sig (Elt Ideal) := after hostOps0_17 (Q7 m c)
abbrev Q9 : Valuation τ sig (Elt Ideal) := after hostOps0_18 (Q8 m c)

theorem Q1_of (r : Ref sig .tc) (h : r ∉ post10_W) : Q1 m c r = Q0 m c r := after_of_writes_sub _ _ post10_writes h
theorem Q2_of (r : Ref sig .tc) (h : r ∉ post11_W) : Q2 m c r = Q1 m c r := after_of_writes_sub _ _ post11_writes h
theorem Q3_of (r : Ref sig .tc) (h : r ∉ post12_W) : Q3 m c r = Q2 m c r := after_of_writes_sub _ _ post12_writes h
theorem Q4_of (r : Ref sig .tc) (h : r ∉ post13_W) : Q4 m c r = Q3 m c r := after_of_writes_sub _ _ post13_writes h
theorem Q5_of (r : Ref sig .tc) (h : r ∉ post14_W) : Q5 m c r = Q4 m c r := after_of_writes_sub _ _ post14_writes h
theorem Q6_of (r : Ref sig .tc) (h : r ∉ post15_W) : Q6 m c r = Q5 m c r := after_of_writes_sub _ _ post15_writes h
theorem Q7_of (r : Ref sig .tc) (h : r ∉ post16_W) : Q7 m c r = Q6 m c r := after_of_writes_sub _ _ post16_writes h
theorem Q8_of (r : Ref sig .tc) (h : r ∉ post17_W) : Q8 m c r = Q7 m c r := after_of_writes_sub _ _ post17_writes h
theorem Q9_of (r : Ref sig .tc) (h : r ∉ post18_W) : Q9 m c r = Q8 m c r := after_of_writes_sub _ _ post18_writes h

theorem final_eq : finalContents condOps preI bodyI postI 1000 m c = Q9 m c := rfl

/-- The class scores. -/
def sc : FVec Ideal S33734x21 .f32 := scores (m ((c.tc : Thread nD τ).loc main_arg1))

/-- The clipped boxes. -/
def bx : FVec Ideal S33734x4 .f32 :=
  clipped (constant (F := Ideal) S_ .f32 0x00000000#32) (constant (F := Ideal) S_ .f32 0x3F800000#32) (corners (m ((c.tc : Thread nD τ).loc main_arg0)) anchors)

theorem P1_scores : P1 m c main_v5 = sc m c := line0_scores _

theorem P2_boxes : P2 m c main_v26 = bx m c := by
  rw [P2, line0_1, P1, line0_lo, line0_hi, line0_corners]; rfl

theorem P3_maxes : P3 m c main_v27 = maxes (sc m c) := by
  rw [P3, line0_2, P2_of _ _ main_v5 (by decide), P1_scores]

theorem P4_args : P4 m c main_v28 = args (sc m c) := by
  rw [P4, line0_3, P3_of _ _ main_v5 (by decide), P2_of _ _ main_v5 (by decide), P1_scores]

theorem P5_top : P5 m c main_values = top (maxes (sc m c)) := by
  rw [P5, line0_4_top, P4_of _ _ main_v27 (by decide), P3_maxes]

theorem P5_topAt : P5 m c main_indices = topAt (maxes (sc m c)) := by
  rw [P5, line0_4_topAt, P4_of _ _ main_v27 (by decide), P3_maxes]

theorem P6_boxes : P6 m c main_v29 = boxesTop (bx m c) (topAt (maxes (sc m c))) := by
  rw [P6, line0_5, P5_topAt, P5_of _ _ main_v26 (by decide), P4_of _ _ main_v26 (by decide), P3_of _ _ main_v26 (by decide), P2_boxes]

theorem P7_classes : P7 m c main_v30 = classesTop (args (sc m c)) (topAt (maxes (sc m c))) := by
  rw [P7, line0_6, P6_of _ _ main_indices (by decide), P5_topAt, P6_of _ _ main_v28 (by decide), P5_of _ _ main_v28 (by decide), P4_args]

/-- The kept flags after the loop. -/
def keptBits : IVec S1000 1 := Q0 m c main_v86_4

theorem Q0_of (r : Ref sig .tc) (h : r ∉ condOps_W) (h' : r ∉ while0Ops0_W) (h'' : r ∉ while0Ops0_1_W) : Q0 m c r = P10 m c r :=
  (after_of_writes_sub _ _ condOps_writes h).trans (atK_of m c r h h' h'' 1000)

theorem Q0_top : Q0 m c main_values = top (maxes (sc m c)) := by
  rw [Q0_of _ _ _ (by decide) (by decide) (by decide), P10_of _ _ main_values (by decide), P9_of _ _ main_values (by decide), P8_of _ _ main_values (by decide), P7_of _ _ main_values (by decide), P6_of _ _ main_values (by decide), P5_top]

theorem Q0_topAt : Q0 m c main_indices = topAt (maxes (sc m c)) := by
  rw [Q0_of _ _ _ (by decide) (by decide) (by decide), P10_of _ _ main_indices (by decide), P9_of _ _ main_indices (by decide), P8_of _ _ main_indices (by decide), P7_of _ _ main_indices (by decide), P6_of _ _ main_indices (by decide), P5_topAt]

theorem Q0_boxes : Q0 m c main_v29 = boxesTop (bx m c) (topAt (maxes (sc m c))) := by
  rw [Q0_of _ _ _ (by decide) (by decide) (by decide), P10_of _ _ main_v29 (by decide), P9_of _ _ main_v29 (by decide), P8_of _ _ main_v29 (by decide), P7_of _ _ main_v29 (by decide), P6_boxes]

theorem Q0_classes : Q0 m c main_v30 = classesTop (args (sc m c)) (topAt (maxes (sc m c))) := by
  rw [Q0_of _ _ _ (by decide) (by decide) (by decide), P10_of _ _ main_v30 (by decide), P9_of _ _ main_v30 (by decide), P8_of _ _ main_v30 (by decide), P7_classes]

theorem Q2_masked : Q2 m c main_v87 = masked (keptBits m c) (top (maxes (sc m c))) := by
  rw [Q2, line0_11 (Q1 m c) (line0_10 _), Q1_of _ _ main_values (by decide), Q0_top, Q1_of _ _ main_v86_4 (by decide)]; rfl

theorem Q3_best : Q3 m c main_values_13 = best (masked (keptBits m c) (top (maxes (sc m c)))) := by
  rw [Q3, line0_12_best, Q2_masked]

theorem Q3_bestAt : Q3 m c main_indices_14 = bestAt (masked (keptBits m c) (top (maxes (sc m c)))) := by
  rw [Q3, line0_12_bestAt, Q2_masked]

theorem Q4_boxes : Q4 m c main_v88 = boxesBest (boxesTop (bx m c) (topAt (maxes (sc m c)))) (bestAt (masked (keptBits m c) (top (maxes (sc m c))))) := by
  rw [Q4, line0_13, Q3_bestAt, Q3_of _ _ main_v29 (by decide), Q2_of _ _ main_v29 (by decide), Q1_of _ _ main_v29 (by decide), Q0_boxes]

/-- The kept flags as integers. -/
def keptInts : IVec S1000 32 := extui 32 (keptBits m c) natLt_1_32

theorem Q7_valid : Q7 m c main_v96 = valid (count (keptInts m c)) := by
  rw [Q7, line0_16_valid, Q6_of _ _ main_v86_4 (by decide), Q5_of _ _ main_v86_4 (by decide), Q4_of _ _ main_v86_4 (by decide), Q3_of _ _ main_v86_4 (by decide), Q2_of _ _ main_v86_4 (by decide), Q1_of _ _ main_v86_4 (by decide)]; rfl

/-- The number kept, -/
theorem Q9_count : Q9 m c main_v93 = count (keptInts m c) := by
  rw [Q9_of _ _ main_v93 (by decide), Q8_of _ _ main_v93 (by decide), Q7, line0_16_count, Q6_of _ _ main_v86_4 (by decide), Q5_of _ _ main_v86_4 (by decide), Q4_of _ _ main_v86_4 (by decide), Q3_of _ _ main_v86_4 (by decide), Q2_of _ _ main_v86_4 (by decide), Q1_of _ _ main_v86_4 (by decide)]; rfl

/-- the rows, -/
theorem Q9_rows : Q9 m c main_v90 = resultRows (maxes (sc m c)) (keptBits m c) := by
  rw [Q9_of _ _ main_v90 (by decide), Q8_of _ _ main_v90 (by decide), Q7_of _ _ main_v90 (by decide), Q6, line0_15, Q5_of _ _ main_indices_14 (by decide), Q4_of _ _ main_indices_14 (by decide), Q3_bestAt,
    Q5_of _ _ main_indices (by decide), Q4_of _ _ main_indices (by decide), Q3_of _ _ main_indices (by decide), Q2_of _ _ main_indices (by decide), Q1_of _ _ main_indices (by decide), Q0_topAt]; rfl

/-- the classes, -/
theorem Q9_classes : Q9 m c main_v89 = resultClasses (maxes (sc m c)) (args (sc m c)) (keptBits m c) := by
  rw [Q9_of _ _ main_v89 (by decide), Q8_of _ _ main_v89 (by decide), Q7_of _ _ main_v89 (by decide), Q6_of _ _ main_v89 (by decide), Q5, line0_14, Q4_of _ _ main_indices_14 (by decide), Q3_bestAt,
    Q4_of _ _ main_v30 (by decide), Q3_of _ _ main_v30 (by decide), Q2_of _ _ main_v30 (by decide), Q1_of _ _ main_v30 (by decide), Q0_classes]; rfl

/-- the scores -/
theorem Q9_scores : Q9 m c main_v97 = resultScores (maxes (sc m c)) (keptBits m c) (keptInts m c) := by
  rw [Q9_of _ _ main_v97 (by decide), Q8, line0_17, Q7_valid, Q7_of _ _ main_values_13 (by decide), Q6_of _ _ main_values_13 (by decide), Q5_of _ _ main_values_13 (by decide), Q4_of _ _ main_values_13 (by decide), Q3_best, Q7, line0_16_cst]; rfl

/-- and the boxes. -/
theorem Q9_boxes : Q9 m c main_v101 = resultBoxes (maxes (sc m c)) (bx m c) (keptBits m c) (keptInts m c) := by
  rw [Q9, line0_18, Q8_of _ _ main_v96 (by decide), Q7_valid, Q8_of _ _ main_v88 (by decide), Q7_of _ _ main_v88 (by decide), Q6_of _ _ main_v88 (by decide), Q5_of _ _ main_v88 (by decide), Q4_boxes]; rfl

end Cert.Proof.R
-- ==== Proof.RIou.lean ====
/-
  The reference's table of overlaps, and what its loop starts from.
-/
module

public import proofs.«01_k».proof.Proof.RVals
public import proofs.«01_k».proof.Proof.Mask

@[expose] public section

noncomputable section

namespace Cert.Proof.R

open Cert.ReferenceIdeal Cert.ReferenceIdeal.Gen Cert.ReferenceIdeal.Value Cert.Proof.T
open Idealize.ShloMosaic
open Idealize.ShloMosaic.TcCoe
open Idealize.ShloMosaic.StableHlo

/-- Coordinate pair `k` of the boxes, along the first axis of a table -/
def down (k : ℕ) (h : S1000x4.Slices ![0, k] S1000x2) (B : FVec Ideal S1000x4 .f32) : FVec Ideal S1000x1000x2 .f32 :=
  broadcastInDim S1000x1000x2 ![0, 1, 2] bcast_S1000x1x2_S1000x1000x2_0_1_2 (broadcastInDim S1000x1x2 ![0, 2] bcast_S1000x2_S1000x1x2_0_2 (extractStridedSlice S1000x2 ![0, k] B h))

/-- and along the second. -/
def across (k : ℕ) (h : S1000x4.Slices ![0, k] S1000x2) (B : FVec Ideal S1000x4 .f32) : FVec Ideal S1000x1000x2 .f32 :=
  broadcastInDim S1000x1000x2 ![0, 1, 2] bcast_S1x1000x2_S1000x1000x2_0_1_2 (broadcastInDim S1x1000x2 ![1, 2] bcast_S1000x2_S1x1000x2_1_2 (extractStridedSlice S1000x2 ![0, k] B h))

/-- The extents two boxes share, below 0 when they do not meet, -/
def spans (B : FVec Ideal S1000x4 .f32) : FVec Ideal S1000x1000x2 .f32 :=
  subf (minimumf (down 2 slices_S1000x4_S1000x2_0_2 B) (across 2 slices_S1000x4_S1000x2_0_2 B))
    (maximumf (down 0 slices_S1000x4_S1000x2_0_0 B) (across 0 slices_S1000x4_S1000x2_0_0 B))

/-- and from 0 up. -/
def atLeast (lo : FVec Ideal S_ .f32) (x : FVec Ideal S1000x1000x2 .f32) : FVec Ideal S1000x1000x2 .f32 :=
  maximumf (broadcastInDim S1000x1000x2 ![] bcast_S_S1000x1000x2 (id lo)) x

/-- The area two boxes share. -/
def shared (x : FVec Ideal S1000x1000x2 .f32) : FVec Ideal S1000x1000 .f32 :=
  mulf (shapeCast S1000x1000 (extractStridedSlice S1000x1000x1 ![0, 0, 0] x slices_S1000x1000x2_S1000x1000x1_0_0_0) shapeCasts_S1000x1000x1_S1000x1000)
    (shapeCast S1000x1000 (extractStridedSlice S1000x1000x1 ![0, 0, 1] x slices_S1000x1000x2_S1000x1000x1_0_0_1) shapeCasts_S1000x1000x1_S1000x1000)

/-- One coordinate of the boxes. -/
def coord (k : ℕ) (h : S1000x4.Slices ![0, k] S1000x1) (B : FVec Ideal S1000x4 .f32) : FVec Ideal S1000 .f32 :=
  shapeCast S1000 (extractStridedSlice S1000x1 ![0, k] B h) shapeCasts_S1000x1_S1000

/-- The boxes' areas. -/
def areas (B : FVec Ideal S1000x4 .f32) : FVec Ideal S1000 .f32 :=
  mulf (subf (coord 2 slices_S1000x4_S1000x1_0_2 B) (coord 0 slices_S1000x4_S1000x1_0_0 B)) (subf (coord 3 slices_S1000x4_S1000x1_0_3 B) (coord 1 slices_S1000x4_S1000x1_0_1 B))

/-- The shared area over the area of the union, a small constant added to it. -/
def ious (B : FVec Ideal S1000x4 .f32) (x : FVec Ideal S1000x1000x2 .f32) : FVec Ideal S1000x1000 .f32 :=
  Host.divf (shared x) (addf (subf (addf
    (broadcastInDim S1000x1000 ![0, 1] bcast_S1000x1_S1000x1000_0_1 (broadcastInDim S1000x1 ![0] bcast_S1000_S1000x1_0 (areas B)))
    (broadcastInDim S1000x1000 ![0, 1] bcast_S1x1000_S1000x1000_0_1 (broadcastInDim S1x1000 ![1] bcast_S1000_S1x1000_1 (areas B)))) (shared x))
    (broadcastInDim S1000x1000 ![] bcast_S_S1000x1000 (constant (F := Ideal) S_ .f32 0x2B8CBCCC#32)))

/-- The table of overlaps of a list of boxes. -/
def table (B : FVec Ideal S1000x4 .f32) : FVec Ideal S1000x1000 .f32 := ious B (atLeast (constant (F := Ideal) S_ .f32 0x00000000#32) (spans B))

section
variable (V : Valuation τ sig (Elt Ideal))

theorem line0_7 : after hostOps0_7 V (Proc.devRef .tc main_v45) = spans (V (Proc.devRef .tc main_v29)) := by
  after_results; rfl
theorem line0_7_lo : after hostOps0_7 V (Proc.devRef .tc main_cst_9) = constant (F := Ideal) S_ .f32 0x00000000#32 := by after_results
theorem line0_8 : after hostOps0_8 V (Proc.devRef .tc main_v46) = atLeast (V (Proc.devRef .tc main_cst_9)) (V (Proc.devRef .tc main_v45)) := by
  after_results; rfl
theorem line0_9_0 : after hostOps0_9 V (Proc.devRef .tc main_v86_0) = iotaInDim S1000 32 0 := by after_results; rfl
theorem line0_9_1 : after hostOps0_9 V (Proc.devRef .tc main_v86_1) = ious (V (Proc.devRef .tc main_v29)) (V (Proc.devRef .tc main_v46)) := by
  after_results; rfl
theorem line0_9_2 : after hostOps0_9 V (Proc.devRef .tc main_v86_2) = iotaInDim S1000 32 0 := by after_results; rfl
theorem line0_9_4 : after hostOps0_9 V (Proc.devRef .tc main_v86_4) =
    cmpf .ogt (V (Proc.devRef .tc main_values) : FVec Ideal S1000 .f32) (broadcastInDim S1000 ![] bcast_S_S1000 (constant (F := Ideal) S_ .f32 0x3D4CCCCD#32)) := by
  after_results; rfl
end

theorem zero32 : Ideal.ofBits .f32 0#32 = 0 := by
  simp [Ideal.ofBits, Ideal.ieee]

theorem down_apply (k : ℕ) (h) (B : FVec Ideal S1000x4 .f32) (i j : Fin 1000) (e : Fin 2) (hk : k + e.val < 4) :
    down k h B (ix3 i j e) = B (ix2 i ⟨k + e, hk⟩) := by
  unfold down
  pointwise

theorem across_apply (k : ℕ) (h) (B : FVec Ideal S1000x4 .f32) (i j : Fin 1000) (e : Fin 2) (hk : k + e.val < 4) :
    across k h B (ix3 i j e) = B (ix2 j ⟨k + e, hk⟩) := by
  unfold across
  pointwise

theorem coord_apply (k : Fin 4) (h) (B : FVec Ideal S1000x4 .f32) (i : Fin 1000) : coord k h B (ix1 i) = B (ix2 i k) := by
  unfold coord
  pointwise

theorem shared_apply (x : FVec Ideal S1000x1000x2 .f32) (i j : Fin 1000) : shared x (ix2 i j) = (x (ix3 i j 0) : EReal) * x (ix3 i j 1) := by
  unfold shared
  pointwise

theorem extent_apply (B : FVec Ideal S1000x4 .f32) (i j : Fin 1000) (e : Fin 2) :
    atLeast (constant (F := Ideal) S_ .f32 0x00000000#32) (spans B) (ix3 i j e)
      = max (0 : EReal) (min (B (ix2 i ⟨2 + e, by omega⟩)) (B (ix2 j ⟨2 + e, by omega⟩)) - max (B (ix2 i ⟨0 + e, by omega⟩)) (B (ix2 j ⟨0 + e, by omega⟩))) := by
  unfold atLeast spans
  pointwise
  rw [down_apply _ _ _ _ _ _ (by omega), down_apply _ _ _ _ _ _ (by omega), across_apply _ _ _ _ _ _ (by omega), across_apply _ _ _ _ _ _ (by omega)]
  show max (Ideal.ofBits .f32 0#32) _ = _
  rw [zero32]
  simp only [Nat.zero_add]

theorem inter_apply (B : FVec Ideal S1000x4 .f32) (i j : Fin 1000) :
    shared (atLeast (constant (F := Ideal) S_ .f32 0x00000000#32) (spans B)) (ix2 i j) = K.inter (fun k => B (ix2 i k)) (fun k => B (ix2 j k)) := by
  rw [shared_apply, extent_apply, extent_apply, max_comm (0 : EReal), max_comm (0 : EReal)]
  rfl

theorem areas_apply (B : FVec Ideal S1000x4 .f32) (i : Fin 1000) : areas B (ix1 i) = K.area (fun k => B (ix2 i k)) := by
  unfold areas
  pointwise
  have h2 := coord_apply 2 slices_S1000x4_S1000x1_0_2 B i
  have h0 := coord_apply 0 slices_S1000x4_S1000x1_0_0 B i
  have h3 := coord_apply 3 slices_S1000x4_S1000x1_0_3 B i
  have h1 := coord_apply 1 slices_S1000x4_S1000x1_0_1 B i
  exact congrArg₂ (fun x y : EReal => x * y) (congrArg₂ (fun x y : EReal => x - y) h2 h0) (congrArg₂ (fun x y : EReal => x - y) h3 h1)

/-- An entry of the table. -/
theorem table_apply (B : FVec Ideal S1000x4 .f32) (i j : Fin 1000) :
    table B (ix2 i j) = Ideal.div (K.inter (fun k => B (ix2 i k)) (fun k => B (ix2 j k)))
      (K.area (fun k => B (ix2 i k)) + K.area (fun k => B (ix2 j k)) - K.inter (fun k => B (ix2 i k)) (fun k => B (ix2 j k)) + Ideal.ofBits .f32 730643660#32) := by
  unfold table ious
  pointwise
  rw [areas_apply, areas_apply, inter_apply]

/-! What the loop starts from. -/

variable (m : (ℓ : Loc nD τ sig) → Buf (Elt Ideal) ℓ) (c : Dev nD)

theorem P10_rows : P10 m c main_v86_0 = iotaInDim S1000 32 0 := line0_9_0 _
theorem P10_order : P10 m c main_v86_2 = iotaInDim S1000 32 0 := line0_9_2 _

theorem P10_table : P10 m c main_v86_1 = table (boxesTop (bx m c) (topAt (maxes (sc m c)))) := by
  rw [P10, line0_9_1, P9, line0_8, after_of_writes_sub _ _ hostOps0_8_writes (r := main_v29) (by decide), P8, line0_7, line0_7_lo,
    after_of_writes_sub _ _ hostOps0_7_writes (r := main_v29) (by decide), P7_of _ _ main_v29 (by decide), P6_boxes]
  rfl

theorem P10_set : P10 m c main_v86_4 = cmpf .ogt (top (maxes (sc m c))) (broadcastInDim S1000 ![] bcast_S_S1000 (constant (F := Ideal) S_ .f32 0x3D4CCCCD#32)) := by
  rw [P10, line0_9_4, P9_of _ _ main_values (by decide), P8_of _ _ main_values (by decide), P7_of _ _ main_values (by decide), P6_of _ _ main_values (by decide), P5_top]

end Cert.Proof.R
-- ==== Proof.KLines.lean ====
/-
  What the kernel's host lines write, as the functions of Tail.lean.
-/
module

public import proofs.«01_k».proof.Proof.Tail
public import proofs.«01_k».proof.Proof.Gen.KernelIdeal.Regions
public import Idealize.ShloMosaic.Lib.StableHlo.RunRead

@[expose] public section

noncomputable section

namespace Cert.Proof.K

open Cert.KernelIdeal Cert.KernelIdeal.Gen Cert.Proof.T
open Idealize.ShloMosaic
open Idealize.ShloMosaic.StableHlo

variable (V : Valuation τ sig (Elt Ideal))

theorem line0_scores : after hostOps0 V (Proc.devRef .tc main_v5) = scores (V (Proc.devRef .tc main_arg1)) := by
  after_results
  rfl

theorem line0_anchors : after hostOps0 V (Proc.devRef .tc main_cst) = fun i => FloatOps.ofBits (F := Ideal) .f32 (lit0 (S33792x4.rowMajor i)) := by
  after_results
  rfl

/-- The rows' greatest scores, -/
def maxes (V : Valuation τ sig (Elt Ideal)) : FVec Ideal S33734 .f32 :=
  shapeCast S33734 (extractStridedSlice S33734x1 ![0, 0] (V (Proc.devRef .tc main_v6_0)) slices_S33792x1_S33734x1_0_0 : FVec Ideal S33734x1 .f32) shapeCasts_S33734x1_S33734

/-- their classes, -/
def args (V : Valuation τ sig (Elt Ideal)) : IVec S33734 32 :=
  shapeCast S33734 (extractStridedSlice S33734x1 ![0, 0] (V (Proc.devRef .tc main_v6_1)) slices_S33792x1_S33734x1_0_0 : IVec S33734x1 32) shapeCasts_S33734x1_S33734

/-- and their boxes. -/
def boxes (V : Valuation τ sig (Elt Ideal)) : FVec Ideal S33734x4 .f32 :=
  extractStridedSlice S33734x4 ![0, 0] (V (Proc.devRef .tc main_v6_2)) slices_S33792x4_S33734x4_0_0

theorem line1_args : after hostOps1 V (Proc.devRef .tc main_v10) = args V := by after_results; rfl
theorem line1_top : after hostOps1 V (Proc.devRef .tc main_values) = top (maxes V) := by after_results; rfl
theorem line1_topAt : after hostOps1 V (Proc.devRef .tc main_indices) = topAt (maxes V) := by after_results; rfl
theorem line1_boxes : after hostOps1 V (Proc.devRef .tc main_v11) = boxes V := by after_results; rfl

theorem line1_1 : after hostOps1_1 V (Proc.devRef .tc main_v12) = boxesTop (V (Proc.devRef .tc main_v11)) (V (Proc.devRef .tc main_indices)) := by
  after_results; rfl

theorem line1_2 : after hostOps1_2 V (Proc.devRef .tc main_v13) = classesTop (V (Proc.devRef .tc main_v10)) (V (Proc.devRef .tc main_indices)) := by
  after_results; rfl

theorem line1_3 : after hostOps1_3 V (Proc.devRef .tc main_c) = constantI S_ 32 0#32 := by after_results

theorem line1_4 : after hostOps1_4 V (Proc.devRef .tc main_v14) =
    pad S1024x4 ![0, 0] ![24, 0] ![0, 0] (V (Proc.devRef .tc main_v12) : FVec Ideal S1000x4 .f32) (sitofp (F := Ideal) .f32 (V (Proc.devRef .tc main_c) : IVec S_ 32)) pads_S1000x4_S1024x4_0240_000 h_S_ := by
  after_results; rfl

theorem line1_5 : after hostOps1_5 V (Proc.devRef .tc main_cst_2) = constant (F := Ideal) S_ .f32 0xBF800000#32 := by after_results

theorem line1_6 : after hostOps1_6 V (Proc.devRef .tc main_v16) =
    pad S1024 ![0] ![24] ![0] (V (Proc.devRef .tc main_values) : FVec Ideal S1000 .f32) (V (Proc.devRef .tc main_cst_2) : FVec Ideal S_ .f32) pads_S1000_S1024_0240 h_S_ := by
  after_results; rfl

theorem line1_7 : after hostOps1_7 V (Proc.devRef .tc main_v17) = broadcastInDim S1x1024 ![1] bcast_S1024_S1x1024_1 (V (Proc.devRef .tc main_v16) : FVec Ideal S1024 .f32) := by
  after_results

/-- The kept flags as the second call leaves them, the 1000 selected ones. -/
def flags (V : Valuation τ sig (Elt Ideal)) : FVec Ideal S1000 .f32 :=
  shapeCast S1000 (extractStridedSlice S1x1000 ![0, 0] (V (Proc.devRef .tc main_v18)) slices_S1x1024_S1x1000_0_0 : FVec Ideal S1x1000 .f32) shapeCasts_S1x1000_S1000

/-- A flag above 0. -/
def set (x : FVec Ideal S1000 .f32) : IVec S1000 1 :=
  cmpf .ogt x (broadcastInDim S1000 ![] bcast_S_S1000 (constant (F := Ideal) S_ .f32 0x00000000#32))

theorem line2_flags : after hostOps2 V (Proc.devRef .tc main_v20) = flags V := by after_results; rfl
theorem line2_set : after hostOps2 V (Proc.devRef .tc main_v22) = set (flags V) := by after_results; rfl
theorem line2_cst : after hostOps2 V (Proc.devRef .tc main_cst_4) = constant (F := Ideal) S_ .f32 0xBF800000#32 := by after_results

theorem line2_1 (h : V (Proc.devRef .tc main_cst_4) = constant (F := Ideal) S_ .f32 0xBF800000#32) :
    after hostOps2_1 V (Proc.devRef .tc main_v23) = masked (V (Proc.devRef .tc main_v22)) (V (Proc.devRef .tc main_values)) := by
  after_results; rw [h]; rfl

theorem line2_2_best : after hostOps2_2 V (Proc.devRef .tc main_values_5) = best (V (Proc.devRef .tc main_v23)) := by after_results; rfl
theorem line2_2_bestAt : after hostOps2_2 V (Proc.devRef .tc main_indices_6) = bestAt (V (Proc.devRef .tc main_v23)) := by after_results; rfl

theorem line2_3 : after hostOps2_3 V (Proc.devRef .tc main_v24) = boxesBest (V (Proc.devRef .tc main_v12)) (V (Proc.devRef .tc main_indices_6)) := by
  after_results; rfl
theorem line2_4 : after hostOps2_4 V (Proc.devRef .tc main_v25) = intsBest (V (Proc.devRef .tc main_v13)) (V (Proc.devRef .tc main_indices_6)) := by
  after_results; rfl
theorem line2_5 : after hostOps2_5 V (Proc.devRef .tc main_v26) = intsBest (V (Proc.devRef .tc main_indices)) (V (Proc.devRef .tc main_indices_6)) := by
  after_results; rfl

theorem line2_6_count : after hostOps2_6 V (Proc.devRef .tc main_v29) = count (fptosi (F := Ideal) (φ := .f32) 32 (V (Proc.devRef .tc main_v20) : FVec Ideal S1000 .f32)) := by
  after_results; rfl
theorem line2_6_valid : after hostOps2_6 V (Proc.devRef .tc main_v32) = valid (count (fptosi (F := Ideal) (φ := .f32) 32 (V (Proc.devRef .tc main_v20) : FVec Ideal S1000 .f32))) := by
  after_results; rfl
theorem line2_6_cst : after hostOps2_6 V (Proc.devRef .tc main_cst_9) = constant (F := Ideal) S_ .f32 0x00000000#32 := by after_results

theorem line2_7 : after hostOps2_7 V (Proc.devRef .tc main_v33) =
    select (V (Proc.devRef .tc main_v32)) (V (Proc.devRef .tc main_values_5)) (broadcastInDim S200 ![] bcast_S_S200 (id (V (Proc.devRef .tc main_cst_9) : FVec Ideal S_ .f32))) := by
  after_results; rfl
theorem line2_8 : after hostOps2_8 V (Proc.devRef .tc main_v37) =
    mulf (F := Ideal) (φ := .f32) (V (Proc.devRef .tc main_v24) : FVec Ideal S200x4 .f32) (broadcastInDim S200x4 ![0, 1] bcast_S200x1_S200x4_0_1 (uitofp (F := Ideal) .f32 (broadcastInDim S200x1 ![0] bcast_S200_S200x1_0 (V (Proc.devRef .tc main_v32) : IVec S200 1)))) := by
  after_results

end Cert.Proof.K
-- ==== Proof.KVals.lean ====
/-
  The kernel's results, as functions of what its two calls leave.
-/
module

public import proofs.«01_k».proof.Proof.KLines

@[expose] public section

noncomputable section

namespace Cert.Proof.K

open Cert.KernelIdeal Cert.KernelIdeal.Gen Cert.Proof.T
open Idealize.ShloMosaic
open Idealize.ShloMosaic.TcCoe
open Idealize.ShloMosaic.StableHlo

variable (m : (ℓ : Loc nD τ sig) → Buf (Elt Ideal) ℓ) (o : Outs (F := Ideal)) (c : Dev nD)

/-- The selected scores, -/
theorem V3_top : V3 m o c main_values = top (maxes (V2 m o c)) := line1_top _

theorem V3_topAt : V3 m o c main_indices = topAt (maxes (V2 m o c)) := line1_topAt _

/-- boxes -/
theorem V4_boxes : V4 m o c main_v12 = boxesTop (boxes (V2 m o c)) (topAt (maxes (V2 m o c))) := by
  rw [V4, line1_1, V3_topAt, V3, line1_boxes]

/-- and classes. -/
theorem V5_classes : V5 m o c main_v13 = classesTop (args (V2 m o c)) (topAt (maxes (V2 m o c))) := by
  rw [V5, line1_2, V4_of _ _ _ main_v10 (by decide), V4_of _ _ _ main_indices (by decide), V3, line1_args, line1_topAt]

/-- The selected scores reach the second call as they were, -/
theorem V10_top : V10 m o c main_values = top (maxes (V2 m o c)) := by
  rw [V10_of _ _ _ _ (by decide), V9_of _ _ _ _ (by decide), V8_of _ _ _ _ (by decide), V7_of _ _ _ _ (by decide), V6_of _ _ _ _ (by decide),
    V5_of _ _ _ _ (by decide), V4_of _ _ _ _ (by decide), V3_top]

theorem V12_top : V12 m o c main_values = top (maxes (V2 m o c)) := by
  rw [V12_of _ _ _ _ (by decide), V11_of _ _ _ _ (by decide), V10_top]

theorem V12_topAt : V12 m o c main_indices = topAt (maxes (V2 m o c)) := by
  rw [V12_of _ _ _ _ (by decide), V11_of _ _ _ _ (by decide), V10_of _ _ _ _ (by decide), V9_of _ _ _ _ (by decide), V8_of _ _ _ _ (by decide),
    V7_of _ _ _ _ (by decide), V6_of _ _ _ _ (by decide), V5_of _ _ _ _ (by decide), V4_of _ _ _ _ (by decide), V3_topAt]

theorem V12_boxes : V12 m o c main_v12 = boxesTop (boxes (V2 m o c)) (topAt (maxes (V2 m o c))) := by
  rw [V12_of _ _ _ _ (by decide), V11_of _ _ _ _ (by decide), V10_of _ _ _ _ (by decide), V9_of _ _ _ _ (by decide), V8_of _ _ _ _ (by decide),
    V7_of _ _ _ _ (by decide), V6_of _ _ _ _ (by decide), V5_of _ _ _ _ (by decide), V4_boxes]

theorem V12_classes : V12 m o c main_v13 = classesTop (args (V2 m o c)) (topAt (maxes (V2 m o c))) := by
  rw [V12_of _ _ _ _ (by decide), V11_of _ _ _ _ (by decide), V10_of _ _ _ _ (by decide), V9_of _ _ _ _ (by decide), V8_of _ _ _ _ (by decide),
    V7_of _ _ _ _ (by decide), V6_of _ _ _ _ (by decide), V5_classes]

/-- The kept flags. -/
def keptBits : IVec S1000 1 := set (flags (V11 m o c))

/-- The kept flags as integers. -/
def keptInts : IVec S1000 32 := fptosi (F := Ideal) (φ := .f32) 32 (flags (V11 m o c))

theorem V13_masked : V13 m o c main_v23 = masked (keptBits m o c) (top (maxes (V2 m o c))) := by
  rw [V13, line2_1 (V12 m o c) (line2_cst _), V12_top, V12, line2_set]; rfl

theorem V14_best : V14 m o c main_values_5 = best (masked (keptBits m o c) (top (maxes (V2 m o c)))) := by
  rw [V14, line2_2_best, V13_masked]

theorem V14_bestAt : V14 m o c main_indices_6 = bestAt (masked (keptBits m o c) (top (maxes (V2 m o c)))) := by
  rw [V14, line2_2_bestAt, V13_masked]

theorem V15_boxes : V15 m o c main_v24 = boxesBest (boxesTop (boxes (V2 m o c)) (topAt (maxes (V2 m o c)))) (bestAt (masked (keptBits m o c) (top (maxes (V2 m o c))))) := by
  rw [V15, line2_3, V14_bestAt, V14_of _ _ _ main_v12 (by decide), V13_of _ _ _ main_v12 (by decide), V12_boxes]

theorem V18_valid : V18 m o c main_v32 = valid (count (keptInts m o c)) := by
  rw [V18, line2_6_valid, V17_of _ _ _ main_v20 (by decide), V16_of _ _ _ main_v20 (by decide), V15_of _ _ _ main_v20 (by decide),
    V14_of _ _ _ main_v20 (by decide), V13_of _ _ _ main_v20 (by decide), V12, line2_flags]
  rfl

/-- The number kept, -/
theorem V20_count : V20 m o c main_v29 = count (keptInts m o c) := by
  rw [V20_of _ _ _ _ (by decide), V19_of _ _ _ _ (by decide), V18, line2_6_count, V17_of _ _ _ main_v20 (by decide), V16_of _ _ _ main_v20 (by decide),
    V15_of _ _ _ main_v20 (by decide), V14_of _ _ _ main_v20 (by decide), V13_of _ _ _ main_v20 (by decide), V12, line2_flags]
  rfl

/-- the rows, -/
theorem V20_rows : V20 m o c main_v26 = resultRows (maxes (V2 m o c)) (keptBits m o c) := by
  rw [V20_of _ _ _ _ (by decide), V19_of _ _ _ _ (by decide), V18_of _ _ _ _ (by decide), V17, line2_5,
    V16_of _ _ _ main_indices_6 (by decide), V15_of _ _ _ main_indices_6 (by decide), V14_bestAt,
    V16_of _ _ _ main_indices (by decide), V15_of _ _ _ main_indices (by decide), V14_of _ _ _ main_indices (by decide), V13_of _ _ _ main_indices (by decide), V12_topAt]
  rfl

/-- the classes, -/
theorem V20_classes : V20 m o c main_v25 = resultClasses (maxes (V2 m o c)) (args (V2 m o c)) (keptBits m o c) := by
  rw [V20_of _ _ _ _ (by decide), V19_of _ _ _ _ (by decide), V18_of _ _ _ _ (by decide), V17_of _ _ _ _ (by decide), V16, line2_4,
    V15_of _ _ _ main_indices_6 (by decide), V14_bestAt,
    V15_of _ _ _ main_v13 (by decide), V14_of _ _ _ main_v13 (by decide), V13_of _ _ _ main_v13 (by decide), V12_classes]
  rfl

/-- the scores -/
theorem V20_scores : V20 m o c main_v33 = resultScores (maxes (V2 m o c)) (keptBits m o c) (keptInts m o c) := by
  rw [V20_of _ _ _ _ (by decide), V19, line2_7, V18_valid, V18_of _ _ _ main_values_5 (by decide), V17_of _ _ _ main_values_5 (by decide),
    V16_of _ _ _ main_values_5 (by decide), V15_of _ _ _ main_values_5 (by decide), V14_best, V18, line2_6_cst]
  rfl

/-- and the boxes. -/
theorem V20_boxes : V20 m o c main_v37 = resultBoxes (maxes (V2 m o c)) (boxes (V2 m o c)) (keptBits m o c) (keptInts m o c) := by
  rw [V20, line2_8, V19_of _ _ _ main_v32 (by decide), V18_valid, V19_of _ _ _ main_v24 (by decide), V18_of _ _ _ main_v24 (by decide),
    V17_of _ _ _ main_v24 (by decide), V16_of _ _ _ main_v24 (by decide), V15_boxes]
  rfl

end Cert.Proof.K
-- ==== Proof.KKept.lean ====
/-
  The kernel's kept flags: the selected rows that survive the suppression.
-/
module

public import proofs.«01_k».proof.Proof.KVals
public import proofs.«01_k».proof.Proof.Regs
public import Idealize.ShloMosaic.Lib.KernelVsHost

@[expose] public section

noncomputable section

namespace Cert.Proof

open Idealize.ShloMosaic

/-- Box `i` of a list of a thousand overlaps box `j`. -/
def overlaps (B : FVec Ideal (⟨2, ![1000, 4]⟩ : Shape) .f32) (i j : Fin 1000) : Prop := K.Over (fun k => B (ix2 i k)) (fun k => B (ix2 j k))

/-- The row's score passes. -/
def passes (T : FVec Ideal (⟨1, ![1000]⟩ : Shape) .f32) (j : Fin 1000) : Prop := Ideal.ofBits .f32 0x3D4CCCCD#32 < T (ix1 j)

/-- The rows that survive: they pass, and no earlier survivor overlaps them. -/
def survives (B : FVec Ideal (⟨2, ![1000, 4]⟩ : Shape) .f32) (T : FVec Ideal (⟨1, ![1000]⟩ : Shape) .f32) : Fin 1000 → Prop :=
  K.nms (overlaps B) (passes T)

namespace K

open Cert.KernelIdeal Cert.KernelIdeal.Gen Cert.Proof.T
open Idealize.ShloMosaic.TcCoe
open Idealize.ShloMosaic.StableHlo

variable {m : (ℓ : Loc nD τ sig) → Buf (Elt Ideal) ℓ} {o : Outs (F := Ideal)} (c : Dev nD)

theorem arr1_box (j : Fin 1000) (k : Fin 4) :
    (arr1 m o c 0 : S1024x4.Idx → EReal) (ix2 (Fin.castLE (by decide : 1000 ≤ 1024) j) k) = boxesTop (boxes (V2 m o c)) (topAt (maxes (V2 m o c))) (ix2 j k) := by
  have h14 : V10 m o c main_v14 = V7 m o c main_v14 := by
    rw [V10_of _ _ _ _ (by decide), V9_of _ _ _ _ (by decide), V8_of _ _ _ _ (by decide)]
  have h12 : V6 m o c main_v12 = boxesTop (boxes (V2 m o c)) (topAt (maxes (V2 m o c))) := by
    rw [V6_of _ _ _ _ (by decide), V5_of _ _ _ _ (by decide), V4_boxes]
  show (V10 m o c main_v14 : S1024x4.Idx → EReal) _ = _
  rw [h14, V7, line1_4, h12]
  exact pad_apply_of_inside _ _ _ _ _ _ _ _ _ (by intro a; fin_cases a <;> simp [ix2])

theorem arr1_score (j : Fin 1000) :
    (arr1 m o c 2 : S1x1024.Idx → EReal) (ix2 0 (Fin.castLE (by decide : 1000 ≤ 1024) j)) = top (maxes (V2 m o c)) (ix1 j) := by
  have hv : V8 m o c main_values = top (maxes (V2 m o c)) := by
    rw [V8_of _ _ _ _ (by decide), V7_of _ _ _ _ (by decide), V6_of _ _ _ _ (by decide), V5_of _ _ _ _ (by decide), V4_of _ _ _ _ (by decide), V3_top]
  show (V10 m o c main_v17 : S1x1024.Idx → EReal) _ = _
  rw [V10, line1_7, V9, line1_6, hv]
  have : ∀ x : FVec Ideal S1024 .f32, broadcastInDim S1x1024 ![1] bcast_S1024_S1x1024_1 x (ix2 0 (Fin.castLE (by decide : 1000 ≤ 1024) j)) = x (ix1 (Fin.castLE (by decide : 1000 ≤ 1024) j)) :=
    fun x => by pointwise
  rw [this]
  exact pad_apply_of_inside _ _ _ _ _ _ _ _ _ (by intro a; fin_cases a <;> simp [ix1])

variable (ho : Leaves m o)
include ho

/-- The second call's row holds a 1 at the survivors, a 0 at the rest. -/
theorem flags_apply (j : Fin 1000) : flags (V11 m o c) (ix1 j) =
    (by classical exact if survives (boxesTop (boxes (V2 m o c)) (topAt (maxes (V2 m o c)))) (top (maxes (V2 m o c))) j then (1 : EReal) else 0) := by
  have h18 : (V11 m o c main_v18 : S1x1024.Idx → EReal) = enc (nms (fun i j => Over (fun k => (arr1 m o c 0 : S1024x4.Idx → EReal) (ix2 i k)) (fun k => (arr1 m o c 0 : S1024x4.Idx → EReal) (ix2 j k))) (cand (arr1 m o c 2))) := by
    have hk := ho.keep c
    unfold kept1 at hk
    rw [pay2_enc, trips_settled (isMask_maskOf _ _ (fun i k => (arr1 m o c 0 : S1024x4.Idx → EReal) (ix2 i k)) (fun _ _ => rfl) (arr1_boxes m o c)) _ le_rfl] at hk
    exact (set1_self m o c _).trans hk
  have hread : flags (V11 m o c) (ix1 j) = (V11 m o c main_v18 : S1x1024.Idx → EReal) (ix2 0 (Fin.castLE (by decide : 1000 ≤ 1024) j)) := by
    unfold flags
    pointwise
    rfl
  classical
  rw [hread, h18, enc_apply]
  refine if_congr (Iff.symm ?_) rfl rfl
  refine nms_castLE (by decide : 1000 ≤ 1024) _ _ _ _ (fun j => ?_) (fun i j _ => ?_) j
  · unfold passes cand
    rw [arr1_score]
  · unfold overlaps
    simp only [arr1_box]

end K

end Cert.Proof
-- ==== Proof.RKept.lean ====
/-
  The reference's loop as one pass over the thousand rows: row `k`, at trip `k`, is dropped when an earlier row still kept overlaps it.
-/
module

public import proofs.«01_k».proof.Proof.RIou
public import proofs.«01_k».proof.Proof.KKept
public import Idealize.ShloMosaic.Lib.Routing.OpsOne
public import Idealize.ShloMosaic.Lib.Routing.OpsOrder
public import Idealize.ShloMosaic.Lib.DynamicIndex

@[expose] public section

noncomputable section

namespace Cert.Proof.R

open Cert.ReferenceIdeal Cert.ReferenceIdeal.Gen Cert.ReferenceIdeal.Value Cert.Proof.T
open Idealize.ShloMosaic
open Idealize.ShloMosaic.ValueIdx (eq_ix0)
open Idealize.ShloMosaic.TcCoe
open Idealize.ShloMosaic.StableHlo

/-- The word that holds `k`. -/
abbrev word (k : ℕ) : IVec S_ 32 := fun _ => BitVec.ofNat 32 k

/-- A row number, counted from the end when negative. -/
def wrapped (r : IVec S_ 32) : IVec S_ 32 := select (cmpi .slt r (constantI S_ 32 0#32)) (addi r (constantI S_ 32 1000#32)) r

/-- Where column `r` starts. -/
def corner (r : IVec S_ 32) : Fin 2 → Int :=
  fun k => (![wrapped (constantI S_ 32 0#32), wrapped r] k (Shape.Idx.first h_S_)).toInt

/-- Column `r` of the table. -/
def column (T : FVec Ideal S1000x1000 .f32) (r : IVec S_ 32) : FVec Ideal S1000 .f32 :=
  shapeCast S1000 (Host.dynamicSlice S1000x1 T (corner r) sliceFits_S1000x1000_S1000x1) shapeCasts_S1000x1_S1000

/-- Entry `r` of a list. -/
def entry {w : ℕ} (x : IVec S1000 w) (r : IVec S_ 32) : IVec S_ w :=
  shapeCast S_ (Host.dynamicSlice S1 x (fun k => (![r] k (Shape.Idx.first h_S_)).toInt) sliceFits_S1000_S1) shapeCasts_S1_S_

/-- The rows still kept that come before row `r` and overlap it. -/
def blockers (T : FVec Ideal S1000x1000 .f32) (A : IVec S1000 1) (O : IVec S1000 32) (r : IVec S_ 32) : IVec S1000 1 :=
  andi (andi (cmpf .ogt (column T r) (broadcastInDim S1000 ![] bcast_S_S1000 (constant (F := Ideal) S_ .f32 0x3F000000#32))) A)
    (cmpi .slt O (broadcastInDim S1000 ![] bcast_S_S1000 r))

/-- There is one. -/
def some? (x : IVec S1000 1) : IVec S_ 1 := Host.reduce IntOp.ori x (constantI S_ 1 0#1) reducesTo_S1000_S_d0 h_S_

/-- One trip. -/
def trip (T : FVec Ideal S1000x1000 .f32) (A : IVec S1000 1) (O : IVec S1000 32) (r : IVec S_ 32) : IVec S1000 1 :=
  Host.scatter scatter_S1000_S1_S__n_0_0_0 (fun _ b => b) A (broadcastInDim S1 ![] bcast_S_S1 (wrapped r))
    (andi (entry A (wrapped r)) (noti (some? (blockers T A O r))))

theorem step_eq (V : Valuation τ sig (Elt Ideal)) :
    step_main_v86_4 V = trip (V main_v86_1) (V main_v86_4) (V main_v86_2) (res_main_while0b_v102 V) := by
  unfold step_main_v86_4 trip some? blockers entry column corner wrapped
  rfl

theorem toInt_word {k : ℕ} (hk : k < 1000) : (BitVec.ofNat 32 k).toInt = k := Predicate.toInt_ofNat_small _ (by omega)

theorem wrapped_word {k : ℕ} (hk : k < 1000) : wrapped (word k) = word k :=
  funext fun i => select_slt_zero_of_nonneg _ _ _ i (by rw [toInt_word hk]; omega)

theorem clamp_row (h : S1.rank = S1000.rank) (f : Fin 1 → Int) (k : Fin 1000) (a : Fin 1) (hf : f a = k.val) : Host.clampedStart S1000 S1 h f a = k.val := by
  have ha : a = 0 := Subsingleton.elim a 0
  subst ha
  exact Host.clampedStart_of_le h f 0 k.val hf k.isLt

theorem entry_word {w : ℕ} (x : IVec S1000 w) (k : Fin 1000) (i : S_.Idx) : entry x (word k.val) i = x (ix1 k) := by
  unfold entry
  pointwise
  refine congrArg x (congrArg ix1 (Fin.ext ?_))
  have hf : (word k.val (Shape.Idx.first h_S_)).toInt = (k.val : Int) := toInt_word k.isLt
  simp only [hf]
  exact clamp_row _ (fun _ => (k.val : Int)) k _ rfl

theorem corner_word (k : Fin 1000) : corner (word k.val) = ![0, (k.val : Int)] := by
  unfold corner
  rw [wrapped_word k.isLt, show wrapped (constantI S_ 32 0#32) = word 0 from wrapped_word (k := 0) (by omega)]
  funext a
  match a with
  | 0 => rfl
  | 1 => exact toInt_word k.isLt

theorem clamp_corner (h : S1000x1.rank = S1000x1000.rank) (k : Fin 1000) :
    Host.clampedStart S1000x1000 S1000x1 h ![0, (k.val : Int)] 0 = 0 ∧ Host.clampedStart S1000x1000 S1000x1 h ![0, (k.val : Int)] 1 = k.val :=
  ⟨Host.clampedStart_of_le h ![0, (k.val : Int)] 0 0 rfl (Nat.le_of_eq (Nat.zero_add 1000)), Host.clampedStart_of_le h ![0, (k.val : Int)] 1 k.val rfl k.isLt⟩

theorem column_word (T : FVec Ideal S1000x1000 .f32) (k i : Fin 1000) : column T (word k.val) (ix1 i) = T (ix2 i k) := by
  unfold column
  rw [corner_word]
  pointwise
  refine congrArg T (congrArg₂ ix2 (Fin.ext ?_) (Fin.ext ?_))
  · exact (congrArg (· + i.val) (clamp_corner rfl k).1).trans (Nat.zero_add _)
  · exact (clamp_corner rfl k).2

theorem and_iff (a b : BitVec 1) : IntOp.andi a b = 1#1 ↔ a = 1#1 ∧ b = 1#1 := by
  revert a b; decide

theorem not_iff_bit (a : BitVec 1) : ~~~a = 1#1 ↔ ¬ a = 1#1 := by
  revert a; decide

theorem ofBool_iff (b : Bool) : BitVec.ofBool b = 1#1 ↔ b = true := by
  revert b; decide

theorem blockers_word (T : FVec Ideal S1000x1000 .f32) (A : IVec S1000 1) (k i : Fin 1000) :
    blockers T A (iotaInDim S1000 32 0) (word k.val) (ix1 i) = 1#1 ↔ Ideal.ofBits .f32 0x3F000000#32 < T (ix2 i k) ∧ A (ix1 i) = 1#1 ∧ i < k := by
  unfold blockers
  pointwise
  rw [column_word]
  show IntOp.andi (IntOp.andi (BitVec.ofBool (decide (Ideal.ofBits .f32 0x3F000000#32 < T (ix2 i k)))) (A (ix1 i))) (IntOp.cmpi .slt (BitVec.ofNat 32 i.val) (BitVec.ofNat 32 k.val)) = 1#1 ↔ _
  rw [show IntOp.cmpi .slt (BitVec.ofNat 32 i.val) (BitVec.ofNat 32 k.val) = BitVec.ofBool (decide (i.val < k.val)) from K.sgt_of_lt (by omega) (by omega),
    and_iff, and_iff, ofBool_iff, ofBool_iff, decide_eq_true_iff, decide_eq_true_iff, and_assoc]
  rfl

theorem some_iff (x : IVec S1000 1) (i : S_.Idx) : some? x i = 1#1 ↔ ∃ j : Fin 1000, x (ix1 j) = 1#1 := by
  unfold some?
  pointwise
  rw [Routing.fold_ori]
  exact ⟨fun ⟨j, _, h⟩ => ⟨j, h⟩, fun ⟨j, h⟩ => ⟨j, Finset.mem_univ j, h⟩⟩

theorem trip_word (T : FVec Ideal S1000x1000 .f32) (A : IVec S1000 1) (k j : Fin 1000) :
    trip T A (iotaInDim S1000 32 0) (word k.val) (ix1 j) = 1#1 ↔
      if j = k then A (ix1 j) = 1#1 ∧ ¬ ∃ i, Ideal.ofBits .f32 0x3F000000#32 < T (ix2 i j) ∧ A (ix1 i) = 1#1 ∧ i < j else A (ix1 j) = 1#1 := by
  unfold trip
  rw [wrapped_word k.isLt]
  have hidx : ((broadcastInDim S1 ![] bcast_S_S1 (word k.val) : IVec S1 32) (ix1 0)).toInt = (k.val : Int) := toInt_word k.isLt
  by_cases h : j = k
  · subst h
    rw [if_pos rfl]
    have hit := Routing.scatter_set_hit scatter_S1000_S1_S__n_0_0_0 A (broadcastInDim S1 ![] bcast_S_S1 (word j.val))
      (andi (entry A (word j.val)) (noti (some? (blockers T A (iotaInDim S1000 32 0) (word j.val))))) (ix1 j)
      (IntOp.andi (A (ix1 j)) (~~~(some? (blockers T A (iotaInDim S1000 32 0) (word j.val)) ValueIdx.ix0)))
      (fun q _ => by
        show IntOp.andi (entry A (word j.val) q) (~~~(some? _ q)) = _
        rw [entry_word, eq_ix0 q])
      ValueIdx.ix0 ((Routing.lands_one scatter_S1000_S1_S__n_0_0_0 rfl rfl _ j hidx j).2 rfl)
    rw [hit, and_iff, not_iff_bit, some_iff]
    simp only [blockers_word]
  · rw [if_neg h]
    have miss := Routing.scatter_set_miss scatter_S1000_S1_S__n_0_0_0 A (broadcastInDim S1 ![] bcast_S_S1 (word k.val))
      (andi (entry A (word k.val)) (noti (some? (blockers T A (iotaInDim S1000 32 0) (word k.val))))) (ix1 j)
      (fun q hq => h ((Routing.lands_one scatter_S1000_S1_S__n_0_0_0 rfl rfl _ k hidx j).1 (by rw [← eq_ix0 q]; exact hq)))
    rw [miss]

/-! The buffers that the trips carry. -/

variable (m : (ℓ : Loc nD τ sig) → Buf (Elt Ideal) ℓ) (c : Dev nD)

theorem atK_succ (k : ℕ) : Agree (atK m (k + 1) c) (STEP (atK m k c)) := trip_agree (atK m k c)

theorem atK_rows : ∀ k, atK m k c main_v86_0 = iotaInDim S1000 32 0
  | 0 => P10_rows m c
  | k + 1 => ((atK_succ m c k main_v86_0 (by decide)).trans (STEP_main_v86_0 _)).trans (atK_rows k)

theorem atK_table : ∀ k, atK m k c main_v86_1 = table (boxesTop (bx m c) (topAt (maxes (sc m c))))
  | 0 => P10_table m c
  | k + 1 => ((atK_succ m c k main_v86_1 (by decide)).trans (STEP_main_v86_1 _)).trans (atK_table k)

theorem atK_order : ∀ k, atK m k c main_v86_2 = iotaInDim S1000 32 0
  | 0 => P10_order m c
  | k + 1 => ((atK_succ m c k main_v86_2 (by decide)).trans (STEP_main_v86_2 _)).trans (atK_order k)

theorem iv_word (k : ℕ) : Scf.iv 0#32 1#32 k = BitVec.ofNat 32 k := by
  simp [Scf.iv]

/-- Trip `k` is row `k`'s. -/
theorem atK_row (k : Fin 1000) : res_main_while0b_v102 (atK m k.val c) = word k.val := by
  have h3 : (atK m k.val c main_v86_3 : IVec S_ 32) = word k.val := (atK_ctr m c k.val).trans (funext fun _ => iv_word k.val)
  show entry (atK m k.val c main_v86_0 : IVec S1000 32) (atK m k.val c main_v86_3 : IVec S_ 32) = _
  rw [atK_rows, h3]
  funext i
  rw [entry_word]
  rfl

theorem atK_next (k j : Fin 1000) : (atK m (k.val + 1) c main_v86_4 : IVec S1000 1) (ix1 j) = 1#1 ↔
    if j = k then (atK m k.val c main_v86_4 : IVec S1000 1) (ix1 j) = 1#1 ∧ ¬ ∃ i, overlaps (boxesTop (bx m c) (topAt (maxes (sc m c)))) i j ∧
      (atK m k.val c main_v86_4 : IVec S1000 1) (ix1 i) = 1#1 ∧ i < j else (atK m k.val c main_v86_4 : IVec S1000 1) (ix1 j) = 1#1 := by
  have h : (atK m (k.val + 1) c main_v86_4 : IVec S1000 1) = trip (table (boxesTop (bx m c) (topAt (maxes (sc m c))))) (atK m k.val c main_v86_4) (iotaInDim S1000 32 0) (word k.val) := by
    refine ((atK_succ m c k.val main_v86_4 (by decide)).trans (STEP_main_v86_4 _)).trans ?_
    rw [step_eq, atK_row, atK_table, atK_order]
  rw [h, trip_word]
  simp only [table_apply]
  rfl

theorem passes_bit (T : FVec Ideal S1000 .f32) (j : Fin 1000) :
    (cmpf .ogt T (broadcastInDim S1000 ![] bcast_S_S1000 (constant (F := Ideal) S_ .f32 0x3D4CCCCD#32)) : IVec S1000 1) (ix1 j) = 1#1 ↔ passes T j := by
  pointwise
  show BitVec.ofBool (decide (Ideal.ofBits .f32 0x3D4CCCCD#32 < T (ix1 j))) = 1#1 ↔ _
  rw [ofBool_iff, decide_eq_true_iff]
  rfl

theorem atK_first (j : Fin 1000) : (atK m 0 c main_v86_4 : IVec S1000 1) (ix1 j) = 1#1 ↔ passes (top (maxes (sc m c))) j :=
  (iff_of_eq (congrArg (fun x : IVec S1000 1 => x (ix1 j) = 1#1) (P10_set m c))).trans (passes_bit _ j)

/-- The loop ends with the survivors. -/
theorem keptBits_iff (j : Fin 1000) : keptBits m c (ix1 j) = 1#1 ↔ survives (boxesTop (bx m c) (topAt (maxes (sc m c)))) (top (maxes (sc m c))) j := by
  have hq : (keptBits m c : IVec S1000 1) = atK m 1000 c main_v86_4 := cond_keeps (atK m 1000 c) main_v86_4 (by decide)
  have hp := K.pass_eq (overlaps (boxesTop (bx m c) (topAt (maxes (sc m c))))) (passes (top (maxes (sc m c))))
    (fun t j => (atK m t c main_v86_4 : IVec S1000 1) (ix1 j) = 1#1)
    (atK_first m c)
    (fun t ht j => (atK_next m c ⟨t, ht⟩ j).trans (iff_of_eq (if_congr (Fin.ext_iff) rfl rfl)))
    1000 (Nat.le_refl 1000) j
  rw [if_pos j.isLt] at hp
  rw [hq]
  exact hp

end Cert.Proof.R
-- ==== Proof.Anchors.lean ====
/-
  The kernel's table of anchors is the reference's, with rows of zeros after it.
-/
module

public import proofs.«01_k».proof.Proof.Gen.KernelIdeal
public import proofs.«01_k».proof.Proof.Gen.ReferenceIdeal
public import Idealize.ShloMosaic.Lib.Tactic
public import Idealize.ShloMosaic.Lib.Pointwise

@[expose] public section

noncomputable section

namespace Cert.Proof

open Idealize.ShloMosaic

/-- The last part of the two tables, up to the reference's last entry. -/
theorem part8 : ∀ r : Fin 3864, KernelIdeal.lit0t1_8 (131072 + r.val) = ReferenceIdeal.lit0t1_8 (131072 + r.val) := by
  decide +kernel

/-- An entry of the kernel's table by the part it lies in, -/
def pickK (q i : ℕ) : BitVec 32 := match q with
  | 0 => KernelIdeal.lit0t1_0 i
  | 1 => KernelIdeal.lit0t1_1 i
  | 2 => KernelIdeal.lit0t1_2 i
  | 3 => KernelIdeal.lit0t1_3 i
  | 4 => KernelIdeal.lit0t1_4 i
  | 5 => KernelIdeal.lit0t1_5 i
  | 6 => KernelIdeal.lit0t1_6 i
  | 7 => KernelIdeal.lit0t1_7 i
  | 8 => KernelIdeal.lit0t1_8 i
  | _ => 0#32

/-- and of the reference's. -/
def pickR (q i : ℕ) : BitVec 32 := match q with
  | 0 => ReferenceIdeal.lit0t1_0 i
  | 1 => ReferenceIdeal.lit0t1_1 i
  | 2 => ReferenceIdeal.lit0t1_2 i
  | 3 => ReferenceIdeal.lit0t1_3 i
  | 4 => ReferenceIdeal.lit0t1_4 i
  | 5 => ReferenceIdeal.lit0t1_5 i
  | 6 => ReferenceIdeal.lit0t1_6 i
  | 7 => ReferenceIdeal.lit0t1_7 i
  | 8 => ReferenceIdeal.lit0t1_8 i
  | _ => 0#32

set_option maxRecDepth 20000 in
theorem pick_low (i : ℕ) : ∀ q, q < 8 → pickK q i = pickR q i
  | 0, _ | 1, _ | 2, _ | 3, _ | 4, _ | 5, _ | 6, _ | 7, _ => by rfl
  | _ + 8, h => absurd h (by omega)

/-- The two tables agree up to the reference's last entry. -/
theorem table_eq (i : ℕ) (h : i < 134936) : KernelIdeal.lit0t i = ReferenceIdeal.lit0t i := by
  have hK : KernelIdeal.lit0t i = pickK (i / 16384) i := by rfl
  have hR : ReferenceIdeal.lit0t i = pickR (i / 16384) i := by rfl
  rw [hK, hR]
  by_cases hi : 131072 ≤ i
  · rw [show i / 16384 = 8 by omega]
    show KernelIdeal.lit0t1_8 i = ReferenceIdeal.lit0t1_8 i
    obtain ⟨r, rfl⟩ := Nat.exists_eq_add_of_le hi
    exact part8 ⟨r, by omega⟩
  · have : i / 16384 < 8 := by omega
    exact pick_low i _ this

/-- Entries are counted along the rows of four. -/
theorem rows_val {n : ℕ} (a : Fin n) (k : Fin 4) : ((Shape.mk 2 ![n, 4]).rowMajor (ix2 a k)).val = a.val * 4 + k.val := by
  show (Shape.rowMajorPi ![n, 4] (ix2 a k)).val = _
  rw [Shape.rowMajorPi_succ_val, Shape.rowMajorPi_succ_val]
  simp [ix2]
  rfl

/-- The anchors of a row are the same in both. -/
theorem anchor_eq (a : Fin 33734) (k : Fin 4) :
    KernelIdeal.lit0 (KernelIdeal.S33792x4.rowMajor (ix2 (Fin.castLE (by decide : 33734 ≤ 33792) a) k)) = ReferenceIdeal.lit0 (ReferenceIdeal.S33734x4.rowMajor (ix2 a k)) := by
  have hk : (KernelIdeal.S33792x4.rowMajor (ix2 (Fin.castLE (by decide : 33734 ≤ 33792) a) k)).val = a.val * 4 + k.val :=
    rows_val _ _
  have hr : (ReferenceIdeal.S33734x4.rowMajor (ix2 a k)).val = a.val * 4 + k.val := rows_val _ _
  have key : ∀ x y : ℕ, x = y → x < 134936 → KernelIdeal.lit0t x = ReferenceIdeal.lit0t y := by
    rintro x _ rfl hx
    exact table_eq x hx
  exact key _ _ (hk.trans hr.symm) (hk.trans_lt (by omega))

end Cert.Proof
-- ==== Proof.Scores.lean ====
/-
  A row's greatest score and its class: the kernel's maximum and masked minimum over the classes, and the
  reference's `argmax`, name the same score and the same class.
-/
module

public import proofs.«01_k».proof.Proof.RVals
public import proofs.«01_k».proof.Proof.KVals
public import proofs.«01_k».proof.Proof.Outs

@[expose] public section

noncomputable section

namespace Cert.Proof

open Idealize.ShloMosaic

/-- The reference's maximum along a row is the row's greatest score. -/
theorem maxes_row (x : FVec Ideal ReferenceIdeal.S33734x21 .f32) (a : Fin 33734) : R.maxes x (ix1 a) = K.rowMax fun k => x (ix2 a k) := by
  unfold R.maxes K.rowMax
  pointwise

theorem negInf : Ideal.ofBits .f32 4286578688#32 = ⊥ := by
  simp [Ideal.ofBits, Ideal.ieee]

/-- The reducer's step: the pair of the greater value, on a tie the lesser index. -/
theorem reducer_step (p q : EReal × BitVec 32) :
    ReferenceIdeal.reducer_argmax_f32_i32 (F := Ideal) p q = if q.1 < p.1 ∨ (p.1 = q.1 ∧ p.2.toInt < q.2.toInt) then p else (q.1, q.2) := by
  obtain ⟨a, i⟩ := p
  obtain ⟨b, j⟩ := q
  unfold ReferenceIdeal.reducer_argmax_f32_i32
  simp only [Ideal.cmpf_def, Ideal.cmp, IntOp.ori, IntOp.andi, IntOp.cmpi, Scalar.select, BitVec.slt]
  rcases lt_trichotomy a b with h | h | h
  · simp [h.not_gt, h.ne]
  · subst h
    by_cases hi : i.toInt < j.toInt <;> simp [hi]
  · simp [h, h.ne']

/-- What a pair that stands for a list must satisfy: it is in the list, no value is above its own, and of its equals
it has the least index. -/
def Stands (l : List (EReal × BitVec 32)) (r : EReal × BitVec 32) : Prop :=
  r ∈ l ∧ ∀ p ∈ l, p.1 < r.1 ∨ (p.1 = r.1 ∧ r.2.toInt ≤ p.2.toInt)

theorem stands_foldl (l : List (EReal × BitVec 32)) : ∀ (seen : List (EReal × BitVec 32)) (r : EReal × BitVec 32), Stands seen r →
    Stands (seen ++ l) (l.foldl (ReferenceIdeal.reducer_argmax_f32_i32 (F := Ideal)) r) := by
  induction l with
  | nil => intro seen r h; simpa using h
  | cons q l ih =>
    intro seen r h
    have := ih (seen ++ [q]) (ReferenceIdeal.reducer_argmax_f32_i32 (F := Ideal) r q) (by
      rw [reducer_step]
      obtain ⟨hr, hall⟩ := h
      split
      · rename_i hc
        refine ⟨List.mem_append_left _ hr, fun p hp => ?_⟩
        rcases List.mem_append.1 hp with hp | hp
        · exact hall p hp
        · obtain rfl := List.mem_singleton.1 hp
          rcases hc with hc | ⟨hc, hi⟩
          · exact .inl hc
          · exact .inr ⟨hc.symm, hi.le⟩
      · rename_i hc
        refine ⟨List.mem_append_right _ (List.mem_singleton.2 rfl), fun p hp => ?_⟩
        rcases List.mem_append.1 hp with hp | hp
        · have hle : r.1 ≤ q.1 := not_lt.1 fun h => hc (.inl h)
          rcases hall p hp with h' | ⟨h', hi⟩
          · exact .inl (h'.trans_le hle)
          · rcases hle.lt_or_eq with hlt | heq
            · exact .inl (h' ▸ hlt)
            · exact .inr ⟨h'.trans heq, (not_lt.1 fun h => hc (.inr ⟨heq, h⟩)).trans hi⟩
        · obtain rfl := List.mem_singleton.1 hp
          exact .inr ⟨rfl, le_rfl⟩)
    simpa using this

/-- The fold of the signed minimum is the entry `v` when `v` is among the entries and below every one. -/
theorem fold_minsi (g : Fin 21 → BitVec 32) (b v : BitVec 32) (k : Fin 21) (hk : g k = v) (hb : v.toInt ≤ b.toInt) (hg : ∀ x, v.toInt ≤ (g x).toInt) :
    Finset.fold IntOp.minsi b g Finset.univ = v := by
  have key : ∀ c : BitVec 32, c.toInt ≤ (Finset.fold IntOp.minsi b g Finset.univ).toInt ↔ c.toInt ≤ b.toInt ∧ ∀ x ∈ Finset.univ, c.toInt ≤ (g x).toInt :=
    fun c => Finset.fold_op_rel_iff_and (r := fun x y : BitVec 32 => x.toInt ≤ y.toInt) (fun {x y z} => by
      unfold IntOp.minsi
      simp only [BitVec.slt, decide_eq_true_eq]
      split <;> constructor <;> intro h <;> omega)
  apply BitVec.eq_of_toInt_eq
  refine le_antisymm ?_ ((key v).2 ⟨hb, fun x _ => hg x⟩)
  rw [← hk]
  exact ((key _).1 le_rfl).2 k (Finset.mem_univ _)

theorem class_toInt (k : Fin 21) : (BitVec.ofNat 32 k.val).toInt = k.val := by
  revert k; decide

/-- The row's class is the least index of a greatest score. -/
theorem rowArg_eq (f : Fin 21 → EReal) (k : Fin 21) (hmax : ∀ x, f x ≤ f k) (hmin : ∀ x, f x = f k → k ≤ x) : K.rowArg f = BitVec.ofNat 32 k := by
  have hrow : K.rowMax f = f k := by
    unfold K.rowMax
    rw [negInf]
    refine le_antisymm (Finset.fold_max_le _ |>.2 ⟨bot_le, fun x _ => hmax x⟩) (Finset.le_fold_max _ |>.2 (.inr ⟨k, Finset.mem_univ _, le_rfl⟩))
  unfold K.rowArg
  refine fold_minsi _ _ _ k (by rw [if_pos hrow.symm]) ?_ fun x => ?_
  · rw [class_toInt]; have := k.isLt; simp; omega
  · have := k.isLt
    rw [class_toInt]
    split
    · rename_i h
      rw [class_toInt]
      have := hmin x (h.trans hrow)
      simpa using this
    · simp; omega

/-- The positions of a row, for the reference's reduction. -/
theorem fiber_mem (x : FVec Ideal ReferenceIdeal.S33734x21 .f32) (y : IVec ReferenceIdeal.S33734x21 32) (h : ReferenceIdeal.S33734x21.ReducesTo [1] ReferenceIdeal.S33734)
    (a : Fin 33734) (p : EReal × BitVec 32) : p ∈ Host.argReduceFiber x y h (ix1 a) ↔ ∃ k : Fin 21, p = (x (ix2 a k), y (ix2 a k)) := by
  have hd : ∀ (b : Fin 33734) (k : Fin 21), h.drop (ix2 b k) = ix1 a ↔ b = a := fun b k => by
    have : (h.drop (ix2 b k) 0 : ℕ) = b := h.drop_apply_val_of_eq (ix2 b k) 0 0
    simp [funext_iff, Fin.ext_iff, Fin.forall_fin_one, this]
  unfold Host.argReduceFiber
  simp only [List.mem_map, List.mem_filter, List.mem_finRange, true_and, decide_eq_true_eq]
  constructor
  · rintro ⟨n, hn, rfl⟩
    obtain ⟨b, k, hbk⟩ : ∃ (b : Fin 33734) (k : Fin 21), ReferenceIdeal.S33734x21.rowMajor.symm n = ix2 b k := ⟨_, _, eq_ix2 _⟩
    rw [hbk] at hn ⊢
    exact ⟨k, by rw [(hd b k).1 hn]⟩
  · rintro ⟨k, rfl⟩
    exact ⟨ReferenceIdeal.S33734x21.rowMajor (ix2 a k), by simp [(hd a k).2 rfl], by simp⟩

/-- The reference's class of a row is the kernel's. -/
theorem args_row (x : FVec Ideal ReferenceIdeal.S33734x21 .f32) (a : Fin 33734) : R.args x (ix1 a) = K.rowArg fun k => x (ix2 a k) := by
  unfold R.args
  rw [Ideal.argReduce_eq_reduce2, Host.reduce2_eq_foldl_fiber]
  obtain ⟨hin, hall⟩ := stands_foldl (Host.argReduceFiber x (iotaInDim ReferenceIdeal.S33734x21 32 1) ReferenceIdeal.Facts₀.reducesTo_S33734x21_S33734_d1 (ix1 a)) [(⊥, 0#32)] (⊥, 0#32)
    ⟨List.mem_singleton.2 rfl, fun p hp => by obtain rfl := List.mem_singleton.1 hp; exact .inr ⟨rfl, le_rfl⟩⟩
  have hi : ((constant (F := Ideal) ReferenceIdeal.S_ .f32 0xFF800000#32 (Shape.Idx.first ReferenceIdeal.Facts₀.h_S_) : EReal), (constantI ReferenceIdeal.S_ 32 0#32 (Shape.Idx.first ReferenceIdeal.Facts₀.h_S_)))
      = ((⊥ : EReal), 0#32) := Prod.ext negInf rfl
  rw [hi]
  generalize (List.foldl _ _ _ : EReal × BitVec 32) = r at hin hall
  have hat : ∀ k : Fin 21, x (ix2 a k) < r.1 ∨ (x (ix2 a k) = r.1 ∧ r.2.toInt ≤ k.val) := fun k => by
    have := hall (x (ix2 a k), BitVec.ofNat 32 k) (List.mem_append_right _ ((fiber_mem _ _ _ _ _).2 ⟨k, rfl⟩))
    rwa [class_toInt] at this
  obtain ⟨k, hk1, hk2⟩ : ∃ k : Fin 21, r.1 = x (ix2 a k) ∧ r.2 = BitVec.ofNat 32 k := by
    rcases List.mem_append.1 hin with h | h
    · obtain rfl := List.mem_singleton.1 h
      rcases hat 0 with h | ⟨h, _⟩
      · exact absurd h not_lt_bot
      · exact ⟨0, h.symm, rfl⟩
    · obtain ⟨k, rfl⟩ := (fiber_mem _ _ _ _ _).1 h
      exact ⟨k, rfl, rfl⟩
  rw [hk2]
  refine (rowArg_eq _ k (fun y => ?_) fun y hy => ?_).symm
  · rw [← hk1]
    rcases hat y with h | ⟨h, _⟩
    · exact h.le
    · exact h.le
  · rcases hat y with h | ⟨_, h⟩
    · exact absurd (hy.trans hk1.symm) h.ne
    · rw [hk2, class_toInt] at h
      exact_mod_cast h

end Cert.Proof
-- ==== Proof.Decode.lean ====
/-
  The kernel's boxes are the reference's.
-/
module

public import proofs.«01_k».proof.Proof.RVals
public import proofs.«01_k».proof.Proof.KVals
public import proofs.«01_k».proof.Proof.Outs
public import proofs.«01_k».proof.Proof.Anchors
public import proofs.«01_k».proof.Proof.Scores

@[expose] public section

noncomputable section

namespace Cert.Proof

open Idealize.ShloMosaic

theorem zero_eq : Ideal.ofBits .f32 0#32 = 0 := by
  simp [Ideal.ofBits, Ideal.ieee]

theorem one_eq : Ideal.ofBits .f32 1065353216#32 = 1 := by
  simp [Ideal.ofBits, Ideal.ieee]
  rw [← EReal.coe_mul]
  norm_num

/-- The reference's box of a row, from the row's offsets and its anchor. -/
theorem corners_row (l d : FVec Ideal ReferenceIdeal.S33734x4 .f32) (a : Fin 33734) (k : Fin 4) :
    R.clipped (constant (F := Ideal) ReferenceIdeal.S_ .f32 0x00000000#32) (constant (F := Ideal) ReferenceIdeal.S_ .f32 0x3F800000#32) (R.corners l d) (ix2 a k)
      = K.boxOf (fun k => l (ix2 a k)) (fun k => d (ix2 a k)) k := by
  unfold R.clipped R.corners R.centres R.halves
  pointwise
  show min (Ideal.ofBits .f32 1065353216#32) (max (Ideal.ofBits .f32 0#32) _) = _
  rw [zero_eq, one_eq]
  rfl

/-! The pre call's results are the reference's. -/

variable {m : (ℓ : Loc KernelIdeal.nD KernelIdeal.τ KernelIdeal.sig) → Buf (Elt Ideal) ℓ} {o : KernelIdeal.Gen.Outs (F := Ideal)} (ho : K.Leaves m o)
  (m' : (ℓ : Loc ReferenceIdeal.nD ReferenceIdeal.τ ReferenceIdeal.sig) → Buf (Elt Ideal) ℓ) (c : Dev KernelIdeal.nD)

include ho

section
variable (h1 : m' ((c.tc : Thread ReferenceIdeal.nD ReferenceIdeal.τ).loc ReferenceIdeal.main_arg1) = m ((c.tc : Thread KernelIdeal.nD KernelIdeal.τ).loc KernelIdeal.main_arg1))
include h1

theorem scores_eq : (KernelIdeal.Gen.V1 m c (Proc.devRef .tc KernelIdeal.main_v5) : FVec Ideal KernelIdeal.S33734x21 .f32) = R.sc m' c := by
  refine (K.line0_scores _).trans ?_
  unfold R.sc
  exact congrArg T.scores h1.symm

theorem maxes_eq : K.maxes (KernelIdeal.Gen.V2 m o c) = R.maxes (R.sc m' c) := by
  funext j
  obtain ⟨a, rfl⟩ : ∃ a : Fin 33734, j = ix1 a := ⟨j 0, eq_ix1 j⟩
  rw [maxes_row, ← scores_eq ho m' c h1]
  unfold K.maxes
  pointwise
  refine (congrFun (K.V2_0 m o c) _).trans ?_
  exact ho.max c _ a.isLt

theorem args_eq : K.args (KernelIdeal.Gen.V2 m o c) = R.args (R.sc m' c) := by
  funext j
  obtain ⟨a, rfl⟩ : ∃ a : Fin 33734, j = ix1 a := ⟨j 0, eq_ix1 j⟩
  rw [args_row, ← scores_eq ho m' c h1]
  unfold K.args
  pointwise
  refine (congrFun (K.V2_1 m o c) _).trans ?_
  exact ho.arg c _ a.isLt
end

omit ho in
theorem offsets_eq (h0 : m' ((c.tc : Thread ReferenceIdeal.nD ReferenceIdeal.τ).loc ReferenceIdeal.main_arg0) = m ((c.tc : Thread KernelIdeal.nD KernelIdeal.τ).loc KernelIdeal.main_arg0)) :
    (KernelIdeal.Gen.V1 m c (Proc.devRef .tc KernelIdeal.main_arg0) : FVec Ideal KernelIdeal.S33734x4 .f32) = m' ((c.tc : Thread ReferenceIdeal.nD ReferenceIdeal.τ).loc ReferenceIdeal.main_arg0) :=
  (KernelIdeal.Gen.V1_of m c KernelIdeal.main_arg0 (by decide)).trans h0.symm

omit ho in
theorem anchors_eq (r : Fin 33792) (h : r.val < 33734) (k : Fin 4) :
    (KernelIdeal.Gen.V1 m c (Proc.devRef .tc KernelIdeal.main_cst) : FVec Ideal KernelIdeal.S33792x4 .f32) (ix2 r k) = R.anchors (ix2 ⟨r.val, h⟩ k) := by
  have e : (KernelIdeal.Gen.V1 m c (Proc.devRef .tc KernelIdeal.main_cst) : FVec Ideal KernelIdeal.S33792x4 .f32)
    = fun i => FloatOps.ofBits (F := Ideal) .f32 (KernelIdeal.lit0 (KernelIdeal.S33792x4.rowMajor i)) := K.line0_anchors _
  rw [e]
  unfold R.anchors
  have := anchor_eq ⟨r.val, h⟩ k
  rw [← this]
  rfl

theorem boxes_eq (h0 : m' ((c.tc : Thread ReferenceIdeal.nD ReferenceIdeal.τ).loc ReferenceIdeal.main_arg0) = m ((c.tc : Thread KernelIdeal.nD KernelIdeal.τ).loc KernelIdeal.main_arg0)) :
    K.boxes (KernelIdeal.Gen.V2 m o c) = R.bx m' c := by
  funext j
  obtain ⟨a, k, rfl⟩ : ∃ (a : Fin 33734) (k : Fin 4), j = ix2 a k := ⟨j 0, j 1, eq_ix2 j⟩
  unfold R.bx
  rw [corners_row]
  unfold K.boxes
  refine (K.head_apply _ _ a k).trans ?_
  refine (congrFun (K.V2_2 m o c) _).trans ?_
  refine (ho.box c _ a.isLt k).trans ?_
  have hl := offsets_eq m' c h0
  have hd := fun k => anchors_eq (m := m) c (Fin.castLE (by decide : 33734 ≤ 33792) a) a.isLt k
  rw [hl]
  simp only [hd]
  rfl

end Cert.Proof
-- ==== Proof.Kept.lean ====
/-
  Both programs keep the same rows.
-/
module

public import proofs.«01_k».proof.Proof.RKept
public import proofs.«01_k».proof.Proof.Decode

@[expose] public section

noncomputable section

namespace Cert.Proof

open Idealize.ShloMosaic
open Idealize.ShloMosaic.TcCoe
open Idealize.ShloMosaic.StableHlo

/-- A flag of 1 or 0 exceeds 0 when it is 1. -/
theorem flag_pos (x : FVec Ideal KernelIdeal.S1000 .f32) (j : Fin 1000) (p : Prop) [Decidable p] (h : x (ix1 j) = if p then (1 : EReal) else 0) :
    K.set x (ix1 j) = BitVec.ofBool (decide p) := by
  unfold K.set
  pointwise
  rw [h]
  by_cases hp : p
  · simp [hp]
  · simp [hp]

theorem int_one : FloatOps.fptosi (F := Ideal) (φ := .f32) 32 (1 : EReal) = 1#32 := by
  show BitVec.ofInt 32 (Ideal.toIntClamped _ _ ((1 : ℝ) : EReal)) = _
  rw [Ideal.toIntClamped_coe]
  simp

theorem int_zero : FloatOps.fptosi (F := Ideal) (φ := .f32) 32 (0 : EReal) = 0#32 := by
  show BitVec.ofInt 32 (Ideal.toIntClamped _ _ ((0 : ℝ) : EReal)) = _
  rw [Ideal.toIntClamped_coe]
  simp

/-- As an integer it is the bit widened. -/
theorem flag_int (x : FVec Ideal KernelIdeal.S1000 .f32) (j : Fin 1000) (p : Prop) [Decidable p] (h : x (ix1 j) = if p then (1 : EReal) else 0) :
    (fptosi (F := Ideal) (φ := .f32) 32 x : IVec KernelIdeal.S1000 32) (ix1 j) = (BitVec.ofBool (decide p)).setWidth 32 := by
  pointwise
  rw [h]
  by_cases hp : p
  · rw [if_pos hp, int_one]; simp [hp]
  · rw [if_neg hp, int_zero]; simp [hp]

theorem kept_ofBool (b : BitVec 1) (p : Prop) [Decidable p] (h : b = 1#1 ↔ p) : b = BitVec.ofBool (decide p) := by
  rcases BitVec.eq_zero_or_eq_one b with e | e
  · have : ¬ p := fun hp => absurd (h.2 hp) (by rw [e]; decide)
    rw [e]; simp [this]
  · have : p := h.1 e
    rw [e]; simp [this]

variable {m : (ℓ : Loc KernelIdeal.nD KernelIdeal.τ KernelIdeal.sig) → Buf (Elt Ideal) ℓ} {o : KernelIdeal.Gen.Outs (F := Ideal)} (ho : K.Leaves m o)
  (m' : (ℓ : Loc ReferenceIdeal.nD ReferenceIdeal.τ ReferenceIdeal.sig) → Buf (Elt Ideal) ℓ) (c : Dev KernelIdeal.nD)
  (h0 : m' ((c.tc : Thread ReferenceIdeal.nD ReferenceIdeal.τ).loc ReferenceIdeal.main_arg0) = m ((c.tc : Thread KernelIdeal.nD KernelIdeal.τ).loc KernelIdeal.main_arg0))
  (h1 : m' ((c.tc : Thread ReferenceIdeal.nD ReferenceIdeal.τ).loc ReferenceIdeal.main_arg1) = m ((c.tc : Thread KernelIdeal.nD KernelIdeal.τ).loc KernelIdeal.main_arg1))
include ho h0 h1

/-- The reference's bit of a row is set when the row survives among the kernel's boxes. -/
theorem kept_bit (j : Fin 1000) : R.keptBits m' c (ix1 j) = 1#1 ↔
    survives (T.boxesTop (K.boxes (KernelIdeal.Gen.V2 m o c)) (T.topAt (K.maxes (KernelIdeal.Gen.V2 m o c)))) (T.top (K.maxes (KernelIdeal.Gen.V2 m o c))) j := by
  rw [maxes_eq ho m' c h1, boxes_eq ho m' c h0]
  exact R.keptBits_iff m' c j

theorem keptBits_eq : K.keptBits m o c = R.keptBits m' c := by
  classical
  funext i
  rw [eq_ix1 i, kept_ofBool _ _ (kept_bit ho m' c h0 h1 (i 0))]
  exact flag_pos _ _ _ (K.flags_apply c ho (i 0))

theorem keptInts_eq : K.keptInts m o c = R.keptInts m' c := by
  classical
  funext i
  refine (congrArg _ (eq_ix1 i)).trans ((flag_int _ _ _ (K.flags_apply c ho (i 0))).trans ?_)
  rw [← kept_ofBool _ _ (kept_bit ho m' c h0 h1 (i 0)), ← eq_ix1 i]
  rfl

end Cert.Proof
-- ==== Proof.lean ====
/-
  The proof of the stated claims.
-/
module

public import proofs.«01_k».proof.Defs
public import proofs.«01_k».proof.Proof.Run
public import proofs.«01_k».proof.Proof.RefFrame
public import proofs.«01_k».proof.Proof.Kept

@[expose] public section

noncomputable section

namespace Cert.Proof

open Idealize.ShloMosaic Idealize.ShloMosaic.TcCoe Idealize.SL.Sem

/-- The kernel runs, its arguments end unchanged and every semaphore ends at zero. -/
theorem frame_kernel : quiescent_KernelIdeal (hKernelIdeal := Cert.KernelIdeal.Gen.facts) := by
  intro m g _
  exact (θ_run _ _ _).mono (fun r h => ⟨fun c =>
    ⟨(h.1 c Cert.KernelIdeal.main_arg0 (by decide) (by decide)).trans (Cert.KernelIdeal.Gen.V20_main_arg0 m (K.theOuts m) c),
     (h.1 c Cert.KernelIdeal.main_arg1 (by decide) (by decide)).trans (Cert.KernelIdeal.Gen.V20_main_arg1 m (K.theOuts m) c)⟩, h.2⟩)
    (K.run m (K.leaves_theOuts m) g)

/-- The same of the reference. -/
theorem frame_reference : quiescent_ReferenceIdeal (hReferenceIdeal := Cert.ReferenceIdeal.Gen.facts) := by
  intro m g _
  exact (θ_run _ _ _).mono (fun r h => ⟨fun c =>
    ⟨(h.1 c Cert.ReferenceIdeal.main_arg0 (by decide)).trans (R.spared_arg0.final m c),
     (h.1 c Cert.ReferenceIdeal.main_arg1 (by decide)).trans (R.spared_arg1.final m c)⟩, h.2⟩)
    (R.run m g)

/-- Every valuation that the kernel can end at gives the results that the reference ends with. -/
theorem results_eq {m : (ℓ : Loc KernelIdeal.nD KernelIdeal.τ KernelIdeal.sig) → Buf (Elt Ideal) ℓ} {o : KernelIdeal.Gen.Outs (F := Ideal)} (ho : K.Leaves m o)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1)) :
    R.Q9 m' c ReferenceIdeal.main_v101 = KernelIdeal.Gen.V20 m o c KernelIdeal.main_v37 ∧
    R.Q9 m' c ReferenceIdeal.main_v97 = KernelIdeal.Gen.V20 m o c KernelIdeal.main_v33 ∧
    R.Q9 m' c ReferenceIdeal.main_v89 = KernelIdeal.Gen.V20 m o c KernelIdeal.main_v25 ∧
    R.Q9 m' c ReferenceIdeal.main_v90 = KernelIdeal.Gen.V20 m o c KernelIdeal.main_v26 ∧
    R.Q9 m' c ReferenceIdeal.main_v93 = KernelIdeal.Gen.V20 m o c KernelIdeal.main_v29 := by
  rw [R.Q9_boxes, R.Q9_scores, R.Q9_classes, R.Q9_rows, R.Q9_count, K.V20_boxes, K.V20_scores, K.V20_classes, K.V20_rows, K.V20_count,
    maxes_eq ho m' c h1, args_eq ho m' c h1, boxes_eq ho m' c h0, keptBits_eq ho m' c h0 h1, keptInts_eq ho m' c h0 h1]
  exact ⟨rfl, rfl, rfl, rfl, rfl⟩

/-- From the same arguments the two programs end with the same results. -/
theorem same : algebraic_KernelIdeal_ReferenceIdeal (hKernelIdeal := Cert.KernelIdeal.Gen.facts) (hReferenceIdeal := Cert.ReferenceIdeal.Gen.facts) := by
  intro m g m' g' _ hargs
  refine ⟨fun c => KernelIdeal.Gen.V20 m (K.theOuts m) c KernelIdeal.main_v37, fun c => KernelIdeal.Gen.V20 m (K.theOuts m) c KernelIdeal.main_v33,
    fun c => KernelIdeal.Gen.V20 m (K.theOuts m) c KernelIdeal.main_v25, fun c => KernelIdeal.Gen.V20 m (K.theOuts m) c KernelIdeal.main_v26,
    fun c => KernelIdeal.Gen.V20 m (K.theOuts m) c KernelIdeal.main_v29, ?_, ?_⟩
  · exact (θ_run _ _ _).mono (fun r h c =>
      ⟨h.1 c Cert.KernelIdeal.main_v37 (by decide) (by decide), h.1 c Cert.KernelIdeal.main_v33 (by decide) (by decide),
       h.1 c Cert.KernelIdeal.main_v25 (by decide) (by decide), h.1 c Cert.KernelIdeal.main_v26 (by decide) (by decide),
       h.1 c Cert.KernelIdeal.main_v29 (by decide) (by decide),
       (h.1 c Cert.KernelIdeal.main_arg0 (by decide) (by decide)).trans (Cert.KernelIdeal.Gen.V20_main_arg0 m (K.theOuts m) c),
       (h.1 c Cert.KernelIdeal.main_arg1 (by decide) (by decide)).trans (Cert.KernelIdeal.Gen.V20_main_arg1 m (K.theOuts m) c)⟩)
      (K.run m (K.leaves_theOuts m) g)
  · exact (θ_run _ _ _).mono (fun r h c =>
      have e := results_eq (K.leaves_theOuts m) m' c (hargs c).1 (hargs c).2
      ⟨(h.1 c Cert.ReferenceIdeal.main_v101 (by decide)).trans e.1, (h.1 c Cert.ReferenceIdeal.main_v97 (by decide)).trans e.2.1,
       (h.1 c Cert.ReferenceIdeal.main_v89 (by decide)).trans e.2.2.1, (h.1 c Cert.ReferenceIdeal.main_v90 (by decide)).trans e.2.2.2.1,
       (h.1 c Cert.ReferenceIdeal.main_v93 (by decide)).trans e.2.2.2.2,
       (h.1 c Cert.ReferenceIdeal.main_arg0 (by decide)).trans (R.spared_arg0.final m' c),
       (h.1 c Cert.ReferenceIdeal.main_arg1 (by decide)).trans (R.spared_arg1.final m' c)⟩)
      (R.run m' g')

theorem claim : Cert.Claim := ⟨Cert.KernelIdeal.Gen.facts, Cert.ReferenceIdeal.Gen.facts, frame_kernel, frame_reference, same⟩

end Cert.Proof

end
